-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 512]⟩ ⟨2, ![4096, 512]⟩ 0 8 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v2_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 512]⟩ ⟨2, ![4096, 512]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2_3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x512 : Shape := ⟨2, ![512, 512]⟩
abbrev S3x1x512 : Shape := ⟨3, ![3, 1, 512]⟩
abbrev S3 : Shape := ⟨1, ![3]⟩
abbrev S_ : Shape := ⟨0, ![]⟩
abbrev S256x512 : Shape := ⟨2, ![256, 512]⟩
abbrev S128x512 : Shape := ⟨2, ![128, 512]⟩
abbrev S64x512 : Shape := ⟨2, ![64, 512]⟩
abbrev S32x512 : Shape := ⟨2, ![32, 512]⟩
abbrev S16x512 : Shape := ⟨2, ![16, 512]⟩
abbrev S8x512 : Shape := ⟨2, ![8, 512]⟩
abbrev S4x512 : Shape := ⟨2, ![4, 512]⟩
abbrev S2x512 : Shape := ⟨2, ![2, 512]⟩
abbrev S1x512 : Shape := ⟨2, ![1, 512]⟩
abbrev S1x1x512 : Shape := ⟨3, ![1, 1, 512]⟩
abbrev S1 : Shape := ⟨1, ![1]⟩
abbrev S511x512 : Shape := ⟨2, ![511, 512]⟩
abbrev S510x512 : Shape := ⟨2, ![510, 512]⟩
abbrev S508x512 : Shape := ⟨2, ![508, 512]⟩
abbrev S504x512 : Shape := ⟨2, ![504, 512]⟩
abbrev S496x512 : Shape := ⟨2, ![496, 512]⟩
abbrev S480x512 : Shape := ⟨2, ![480, 512]⟩
abbrev S448x512 : Shape := ⟨2, ![448, 512]⟩
abbrev S384x512 : Shape := ⟨2, ![384, 512]⟩

abbrev nBuf : Space → Nat
  | .hbm => 2
  | .vmem => 4
  | .smem => 0
  | _ => 0

abbrev bufTy : (tb : Table) → Fin (tcTables nBuf tb) → BufTy
  | .hbm, ⟨0, _⟩ => ⟨S512x512, .bf16⟩
  | .hbm, ⟨1, _⟩ => ⟨S512x512, .f32⟩
  | .local _ .vmem, ⟨0, _⟩ => ⟨S512x512, .bf16⟩
  | .local _ .vmem, ⟨1, _⟩ => ⟨S512x512, .f32⟩
  | .local _ .vmem, ⟨2, _⟩ => ⟨S3x1x512, .f32⟩
  | .local _ .vmem, ⟨3, _⟩ => ⟨S3x1x512, .f32⟩
  | _, _ => ⟨S512x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  (ofTc nBuf bufTy 1 8 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_2 : BitVec 32 := 1#32
  let v7 : BitVec 32 := Scalar.muli v3 c1_i32_2
  let v8 : BitVec 32 := Scalar.addi c0_i32 v7
  v8.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v4 : BitVec 32 := Scalar.xori v2 c2_i32
  let c1_i32_4 : BitVec 32 := 1#32
  let v9 : BitVec 32 := Scalar.muli v4 c1_i32_4
  let v10 : BitVec 32 := Scalar.addi c0_i32_5 v9
  v10.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_7 : BitVec 32 := 1#32
  let v11 : BitVec 32 := Scalar.muli v5 c1_i32_7
  let v12 : BitVec 32 := Scalar.addi c0_i32_8 v11
  v12.toNat
def k0_dev4 (d0 : Dev nD) : Nat :=
  let c0_i32_18 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_17 : BitVec 32 := 1#32
  let v46 : BitVec 32 := Scalar.muli v3 c1_i32_17
  let v47 : BitVec 32 := Scalar.addi c0_i32_18 v46
  v47.toNat
def k0_dev5 (d0 : Dev nD) : Nat :=
  let c0_i32_56 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v4 : BitVec 32 := Scalar.xori v2 c2_i32
  let c1_i32_55 : BitVec 32 := 1#32
  let v100 : BitVec 32 := Scalar.muli v4 c1_i32_55
  let v101 : BitVec 32 := Scalar.addi c0_i32_56 v100
  v101.toNat
def k0_dev6 (d0 : Dev nD) : Nat :=
  let c0_i32_92 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_91 : BitVec 32 := 1#32
  let v149 : BitVec 32 := Scalar.muli v5 c1_i32_91
  let v150 : BitVec 32 := Scalar.addi c0_i32_92 v149
  v150.toNat
abbrev stage0_0 : Fin 1 → Memref sig .tc .vmem S512x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x512 : Shape := ⟨2, ![4096, 512]⟩
abbrev S_ : Shape := ⟨0, ![]⟩
abbrev S512 : Shape := ⟨1, ![512]⟩
abbrev S1x512 : Shape := ⟨2, ![1, 512]⟩

abbrev nBuf : Space → Nat
  | .hbm => 22
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S_, .f32⟩
  | .hbm, ⟨2, _⟩ => ⟨S512, .f32⟩
  | .hbm, ⟨3, _⟩ => ⟨S_, .f32⟩
  | .hbm, ⟨4, _⟩ => ⟨S4096x512, .f32⟩
  | .hbm, ⟨5, _⟩ => ⟨S_, .i32⟩
  | .hbm, ⟨6, _⟩ => ⟨S4096x512, .bf16⟩
  | .hbm, ⟨7, _⟩ => ⟨S_, .i32⟩
  | .hbm, ⟨8, _⟩ => ⟨S512, .f32⟩
  | .hbm, ⟨9, _⟩ => ⟨S4096x512, .f32⟩
  | .hbm, ⟨10, _⟩ => ⟨S_, .i32⟩
  | .hbm, ⟨11, _⟩ => ⟨S_, .i1⟩
  | .hbm, ⟨12, _⟩ => ⟨S_, .i32⟩
  | .hbm, ⟨13, _⟩ => ⟨S1x512, .bf16⟩
  | .hbm, ⟨14, _⟩ => ⟨S512, .bf16⟩
  | .hbm, ⟨15, _⟩ => ⟨S512, .f32⟩
  | .hbm, ⟨16, _⟩ => ⟨S512, .f32⟩
  | .hbm, ⟨17, _⟩ => ⟨S1x512, .f32⟩
  | .hbm, ⟨18, _⟩ => ⟨S_, .i32⟩
  | .hbm, ⟨19, _⟩ => ⟨S4096x512, .f32⟩
  | .hbm, ⟨20, _⟩ => ⟨S_, .i32⟩
  | .hbm, ⟨21, _⟩ => ⟨S_, .i32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_c : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev main_while0c_c_4 : Ref sig .tc := ⟨.hbm, 10, rfl⟩
abbrev main_while0c_v3 : Ref sig .tc := ⟨.hbm, 11, rfl⟩
abbrev main_while0b_call0_c : Ref sig .tc := ⟨.hbm, 12, rfl⟩
abbrev main_while0b_call0_v0 : Ref sig .tc := ⟨.hbm, 13, rfl⟩
abbrev main_while0b_v3 : Ref sig .tc := ⟨.hbm, 14, rfl⟩
abbrev main_while0b_v4 : Ref sig .tc := ⟨.hbm, 15, rfl⟩
abbrev main_while0b_v5 : Ref sig .tc := ⟨.hbm, 16, rfl⟩
abbrev main_while0b_call1_v0 : Ref sig .tc := ⟨.hbm, 17, rfl⟩
abbrev main_while0b_call1_c : Ref sig .tc := ⟨.hbm, 18, rfl⟩
abbrev main_while0b_v6 : Ref sig .tc := ⟨.hbm, 19, rfl⟩
abbrev main_while0b_c_4 : Ref sig .tc := ⟨.hbm, 20, rfl⟩
abbrev main_while0b_v7 : Ref sig .tc := ⟨.hbm, 21, rfl⟩

abbrev nD : Nat := 1
abbrev τ : Topo := Topo.v7x

variable {F : FTy → Type} [FloatOps F]

abbrev main_while0_count : Scf.Loop 32 := ⟨0#32, 4096#32, 1#32⟩
-- ==== Proof.Seq.lean ====
/-
Products of a sequence in a commutative monoid: the facts that the doubling scan, the halving product and the
cutting into blocks rest on.
-/
module

public import Mathlib.Algebra.BigOperators.Intervals
public import Mathlib.Algebra.BigOperators.Group.Finset.Basic

@[expose] public section

namespace Cert.ScanProof

open scoped BigOperators
open Finset

variable {M : Type*} [CommMonoid M]

/-- The product of the `k` terms of `f` that end with term `r`, or of all the terms up to `r` where there are fewer. -/
def window (f : ℕ → M) (k r : ℕ) : M := ∏ i ∈ range (min k (r + 1)), f (r - i)

/-- A window of one term is that term. -/
theorem window_one (f : ℕ → M) (r : ℕ) : window f 1 r = f r := by
  unfold window
  rw [Nat.min_eq_left (by omega), prod_range_one, Nat.sub_zero]

/-- A window of `k` terms, times the window of `k` terms that ends just before it where there is one, is the window
    of twice as many. -/
theorem window_double (f : ℕ → M) (k r : ℕ) :
    window f k r * (if r < k then 1 else window f k (r - k)) = window f (k + k) r := by
  unfold window
  split
  · rw [mul_one, show min k (r + 1) = min (k + k) (r + 1) by omega]
  · rw [show min (k + k) (r + 1) = k + min k (r - k + 1) by omega, prod_range_add, show min k (r + 1) = k by omega]
    exact congrArg _ (prod_congr rfl fun i _ => congrArg f (by omega))

/-- A window at least as long as what there is to cover is the product of everything up to term `r`. -/
theorem window_all (f : ℕ → M) {k r : ℕ} (h : r < k) : window f k r = ∏ i ∈ range (r + 1), f i := by
  unfold window
  rw [show min k (r + 1) = r + 1 by omega, ← prod_range_reflect f (r + 1)]
  exact prod_congr rfl fun i _ => congrArg f (by omega)

/-- Folding the upper half of `2n` terms onto the lower half keeps the product. -/
theorem prod_fold_half (f g : ℕ → M) (n : ℕ) (h : ∀ i < n, g i = f i * f (n + i)) :
    ∏ i ∈ range n, g i = ∏ i ∈ range (n + n), f i := by
  rw [prod_range_add, ← prod_mul_distrib]
  exact prod_congr rfl fun i hi => h i (mem_range.1 hi)

/-- The product of `n` blocks of `b` terms each is the product of the blocks' products. -/
theorem prod_blocks (f : ℕ → M) (b n : ℕ) :
    ∏ i ∈ range (b * n), f i = ∏ d ∈ range n, ∏ i ∈ range b, f (b * d + i) := by
  induction n with
  | zero => simp
  | succ n ih => rw [Nat.mul_succ, prod_range_add, prod_range_succ, ih]

/-- The product up to term `r` of block `n` is the product of the whole blocks before it times the block's own
    product up to that term. -/
theorem prod_up_to (f : ℕ → M) (b n r : ℕ) :
    ∏ i ∈ range (b * n + r + 1), f i
      = (∏ d ∈ range n, ∏ i ∈ range b, f (b * d + i)) * ∏ i ∈ range (r + 1), f (b * n + i) := by
  rw [Nat.add_assoc, prod_range_add, prod_blocks]

end Cert.ScanProof
-- ==== Proof.Column.lean ====
/-
A column of a two-dimensional array read as a sequence.
-/
module

public import Idealize.ShloMosaic.Lib.ValueIdx
public import Idealize.ShloMosaic.Lib.IdealHost

@[expose] public section

noncomputable section

namespace Cert.ScanProof

open Idealize.ShloMosaic
open Idealize.ShloMosaic.ValueIdx

/-- Column `l` of an array of `n` rows, as a sequence: row `i`'s entry, and one past the last row. -/
def column {n : ℕ} (x : (⟨2, ![n, 512]⟩ : Shape).Idx → EReal) (l : Fin 512) (i : ℕ) : EReal :=
  if h : i < n then x (ix2 ⟨i, h⟩ l) else 1

/-- Inside the array, the sequence is the column. -/
theorem column_of_lt {n : ℕ} (x : (⟨2, ![n, 512]⟩ : Shape).Idx → EReal) (l : Fin 512) {i : ℕ} (h : i < n) :
    column x l i = x (ix2 ⟨i, h⟩ l) := dif_pos h

/-- The constant `1.0` is the extended real one. -/
theorem one_f32 : (Scalar.ofBits .f32 0x3F800000#32 : Ideal .f32) = (1 : EReal) := Ideal.ofBits_one_f32

end Cert.ScanProof

end
-- ==== Proof.Block.lean ====
/-
What one device computes from its own 512 rows, over the extended reals: the product of all its rows (by halving),
and the running product down its rows (by shifts that double).
-/
module

public import proofs.«01_k».proof.Proof.Seq
public import proofs.«01_k».proof.Proof.Column
public import proofs.«01_k».proof.Proof.Gen.KernelIdeal.Skeleton
public import Idealize.ShloMosaic.Lib.ValueLayout
public import Idealize.ShloMosaic.Lib.Pipeline.Value

@[expose] public section

noncomputable section

namespace Cert.ScanProof

open Cert.KernelIdeal Cert.KernelIdeal.Gen
open Idealize.ShloMosaic
open Idealize.ShloMosaic.ValueIdx
open scoped BigOperators
open Finset

/-- Rows taken from offset `o` read, at row `r`, the operand's row `o + r`. -/
theorem rows_apply {n k : ℕ} (o : ℕ) (x : (⟨2, ![n, 512]⟩ : Shape).Idx → EReal)
    (h : (⟨2, ![n, 512]⟩ : Shape).Slices ![o, 0] ⟨2, ![k, 512]⟩) (r : Fin k) (l : Fin 512) (hr : o + r.val < n) :
    extractStridedSlice ⟨2, ![k, 512]⟩ ![o, 0] x h (ix2 r l) = x (ix2 ⟨o + r.val, hr⟩ l) :=
  congrArg x (funext fun a => match a with
    | ⟨0, _⟩ => rfl
    | ⟨1, _⟩ => Fin.ext (Nat.zero_add _))

/-! ### The product of all rows, by halving -/

/-- The upper half of the rows times the lower half has, down each column, the same product as all the rows. -/
theorem prod_halve {N : ℕ} (n : ℕ) (hN : N = n + n) (x : FVec Ideal ⟨2, ![N, 512]⟩ .f32)
    (h0 : (⟨2, ![N, 512]⟩ : Shape).Slices ![0, 0] ⟨2, ![n, 512]⟩)
    (h1 : (⟨2, ![N, 512]⟩ : Shape).Slices ![n, 0] ⟨2, ![n, 512]⟩) (l : Fin 512) :
    ∏ i ∈ range n, column (mulf (extractStridedSlice ⟨2, ![n, 512]⟩ ![0, 0] x h0)
        (extractStridedSlice ⟨2, ![n, 512]⟩ ![n, 0] x h1)) l i
      = ∏ i ∈ range N, column x l i := by
  subst hN
  refine prod_fold_half (column x l) _ n fun i hi => ?_
  rw [column_of_lt _ _ hi, mulf_apply, rows_apply 0 x h0 ⟨i, hi⟩ l (by simp only; omega), rows_apply n x h1 ⟨i, hi⟩ l (by simp only; omega),
    column_of_lt x l (by omega : i < n + n), column_of_lt x l (by omega : n + i < n + n)]
  simp only [Nat.zero_add]

/-- The two rows left after eight halvings have the block's product down each column. -/
theorem pay1_prod (x : Vec Ideal S512x512 .bf16) (l : Fin 512) :
    ∏ i ∈ range 2, column (k0_pay1 x) l i = ∏ i ∈ range 512, column x l i := by
  unfold k0_pay1
  simp only
  rw [shapeCast_self]
  exact (prod_halve 2 rfl _ _ _ l).trans <| (prod_halve 4 rfl _ _ _ l).trans <| (prod_halve 8 rfl _ _ _ l).trans <|
    (prod_halve 16 rfl _ _ _ l).trans <| (prod_halve 32 rfl _ _ _ l).trans <| (prod_halve 64 rfl _ _ _ l).trans <|
    (prod_halve 128 rfl _ _ _ l).trans <| prod_halve 256 rfl _ _ _ l

/-- The row a device sends first is the product of all its rows. -/
theorem pay2_apply (x : Vec Ideal S512x512 .bf16) (l : Fin 512) :
    k0_pay2 (k0_pay1 x) (ix3 (0 : Fin 1) (0 : Fin 1) l) = ∏ i ∈ range 512, column x l i := by
  rw [← pay1_prod]
  unfold k0_pay2
  rw [shapeCast_ab_1ab_apply]
  refine Eq.trans ?_ (prod_halve 1 rfl (k0_pay1 x) slices_S2x512_o0_0_S1x512 slices_S2x512_o1_0_S1x512 l)
  rw [prod_range_one, column_of_lt _ _ Nat.one_pos]
  rfl

/-! ### The running product, by doubling shifts -/

/-- Every entry is the product of the `k` entries of the column that end with it. -/
def IsWindow (f : Fin 512 → ℕ → EReal) (k : ℕ) (y : (⟨2, ![512, 512]⟩ : Shape).Idx → EReal) : Prop :=
  ∀ (r l : Fin 512), y (ix2 r l) = window (f l) k r.val

/-- The array moved down by `s` rows, the rows let in being one. -/
theorem shifted_apply {s t : ℕ} (y : FVec Ideal ⟨2, ![512, 512]⟩ .f32) {one : Ideal .f32} (h1 : one = (1 : EReal))
    (hs : (⟨2, ![512, 512]⟩ : Shape).Slices ![0, 0] ⟨2, ![t, 512]⟩)
    (hc : Shape.Concatenates [(⟨2, ![s, 512]⟩ : Shape), ⟨2, ![t, 512]⟩] ⟨2, ![512, 512]⟩ 0) (hst : s + t = 512) (r l : Fin 512) :
    concatenate ⟨2, ![512, 512]⟩ 0 [⟨⟨2, ![s, 512]⟩, broadcast (⟨2, ![s, 512]⟩ : Shape) one⟩,
        ⟨⟨2, ![t, 512]⟩, extractStridedSlice ⟨2, ![t, 512]⟩ ![0, 0] y hs⟩] hc (ix2 r l)
      = if r.val < s then (1 : EReal) else y (ix2 ⟨r.val - s, by omega⟩ l) := by
  split
  · rename_i hr
    rw [concatenate_pair_apply_left (s₁ := ⟨2, ![s, 512]⟩) (s₂ := ⟨2, ![t, 512]⟩) (0 : Fin 2) _ _ hc (ix2 r l) rfl (ix2 ⟨r.val, hr⟩ l)
      (fun b => match b with | ⟨0, _⟩ => rfl | ⟨1, _⟩ => rfl)]
    exact h1
  · rename_i hr
    have hlt : r.val - s < t := by omega
    rw [concatenate_pair_apply_right (s₁ := ⟨2, ![s, 512]⟩) (s₂ := ⟨2, ![t, 512]⟩) (0 : Fin 2) _ _ hc (ix2 r l) rfl rfl (ix2 ⟨r.val - s, hlt⟩ l)
      (fun b hb => match b, hb with | ⟨0, _⟩, hb => absurd rfl hb | ⟨1, _⟩, _ => rfl)
      (show r.val - s + s = r.val by omega), rows_apply 0 y hs ⟨r.val - s, hlt⟩ l (by simp only; omega)]
    simp only [Nat.zero_add]

/-- One step of the scan: an array of windows of `s` entries, times itself moved down by `s` rows, is the array of
    windows of twice as many. -/
theorem IsWindow.step {f : Fin 512 → ℕ → EReal} {s t : ℕ} {y : FVec Ideal ⟨2, ![512, 512]⟩ .f32} (hy : IsWindow f s y)
    {one : Ideal .f32} (h1 : one = (1 : EReal))
    (hs : (⟨2, ![512, 512]⟩ : Shape).Slices ![0, 0] ⟨2, ![t, 512]⟩)
    (hc : Shape.Concatenates [(⟨2, ![s, 512]⟩ : Shape), ⟨2, ![t, 512]⟩] ⟨2, ![512, 512]⟩ 0) (hst : s + t = 512) :
    IsWindow f (s + s) (mulf y (concatenate ⟨2, ![512, 512]⟩ 0 [⟨⟨2, ![s, 512]⟩, broadcast (⟨2, ![s, 512]⟩ : Shape) one⟩,
        ⟨⟨2, ![t, 512]⟩, extractStridedSlice ⟨2, ![t, 512]⟩ ![0, 0] y hs⟩] hc)) := fun r l => by
  rw [mulf_apply, shifted_apply y h1 hs hc hst, ← window_double, hy r l]
  exact congrArg _ (if_congr Iff.rfl rfl (hy _ l))

/-- The first four steps make windows of sixteen entries; -/
theorem pay3_window (x : Vec Ideal S512x512 .bf16) : IsWindow (column x) 16 (k0_pay3 x) := by
  unfold k0_pay3
  simp only
  rw [shapeCast_self]
  have h : IsWindow (column x) 1 (extf .f32 x bitsLt_bf16_f32 : FVec Ideal S512x512 .f32) := fun r l => by
    rw [window_one, column_of_lt _ _ r.isLt]; rfl
  exact (((h.step one_f32 _ _ rfl).step one_f32 _ _ rfl).step one_f32 _ _ rfl).step one_f32 _ _ rfl

/-- the next makes windows of thirty-two; -/
theorem pay4_window {f : Fin 512 → ℕ → EReal} {y : FVec Ideal S512x512 .f32} (hy : IsWindow f 16 y) {one : Ideal .f32}
    (h1 : one = (1 : EReal)) : IsWindow f 32 (k0_pay4 y one) :=
  hy.step h1 _ _ rfl

/-- A row spread over all rows reads the row. -/
theorem spread_apply (v : FVec Ideal S1x512 .f32) (h : S1x512.Broadcasts S512x512) (r l : Fin 512) :
    broadcastTo S512x512 v h (ix2 r l) = v (ix2 (0 : Fin 1) l) :=
  congrArg v (funext fun a => match a with
    | ⟨0, _⟩ => rfl
    | ⟨1, _⟩ => rfl)

/-- and the last four make windows of 512, that is the running product; this times the row given. -/
theorem pay7_apply {f : Fin 512 → ℕ → EReal} {y : FVec Ideal S512x512 .f32} (hy : IsWindow f 32 y) (v : FVec Ideal S1x512 .f32)
    (r l : Fin 512) :
    k0_pay7 y v (ix2 r l) = (∏ i ∈ range (r.val + 1), f l i) * v (ix2 (0 : Fin 1) l) := by
  unfold k0_pay7
  rw [mulf_apply, spread_apply, ← window_all (f l) r.isLt]
  exact congrArg (· * _) (((((hy.step one_f32 _ _ rfl).step one_f32 _ _ rfl).step one_f32 _ _ rfl).step one_f32 _ _ rfl) r l)

/-- A device's own running product, times the row given. -/
theorem own_scan (x : Vec Ideal S512x512 .bf16) (v : FVec Ideal S1x512 .f32) (r l : Fin 512) :
    k0_pay7 (k0_pay4 (k0_pay3 x) (Scalar.ofBits .f32 0x3F800000#32)) v (ix2 r l)
      = (∏ i ∈ range (r.val + 1), column x l i) * v (ix2 (0 : Fin 1) l) :=
  pay7_apply (pay4_window (pay3_window x) one_f32) v r l

end Cert.ScanProof

end
-- ==== Proof.Slots.lean ====
/-
The two scratch buffers, each an f32[3,1,512] array of three slots of one row, and the rows kept in the slots.

A slot is held through the set of the buffer's positions it covers. What a slot holds is written by one
function on the whole buffer, `fill w`, which carries the row `w` in every slot: only the part on the held slot
is ever spoken of. Proved here, for each of the three slots: a store of a row leaves the slot filled with that
row, a load of a filled slot reads the row, and a transfer from a slot to the same slot of the other buffer
carries the contents over.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.ScanProof

open Cert.KernelIdeal Cert.KernelIdeal.Gen
open Idealize.ShloMosaic
open Idealize.ShloMosaic.TcCoe

variable {F : FTy → Type} [FloatOps F]

/-- A row of 512 numbers, in the shape the slots have. -/
abbrev Row (F : FTy → Type) : Type := S1x1x512.Idx → Elt F .f32

theorem slot_inb (k : Fin 3) : ∀ a : Fin 3, (![k.val, 0, 0] : Fin 3 → Nat) a + S1x1x512.size a ≤ S3x1x512.size a := by
  revert k; decide

/-- The rectangle of slot `k`. -/
abbrev slotR (k : Fin 3) : Rect S3x1x512 := Rect.unit (s := S3x1x512) ![k.val, 0, 0] S1x1x512.size (slot_inb k)

/-- The buffer's positions in slot `k`. -/
def slotSet (k : Fin 3) : Finset S3x1x512.Idx := (slotR k).set

abbrev sendM : Memref sig .tc .vmem S3x1x512 .f32 := Memref.whole cc0_scratch0
abbrev recvM : Memref sig .tc .vmem S3x1x512 .f32 := Memref.whole cc0_scratch1

/-- Slot `k` of the send buffer as the transfers name it: a [1,512] array. -/
abbrev sendSlot (k : Fin 3) : Memref sig .tc .vmem S1x512 .f32 :=
  ((sendM : Memref sig .tc .vmem S3x1x512 .f32).slice (slotR k) (fun _ => rfl)).squeeze S1x512 squeezes_S1x1x512_S1x512
/-- Slot `k` of the receive buffer as the transfers name it. -/
abbrev recvSlot (k : Fin 3) : Memref sig .tc .vmem S1x512 .f32 :=
  ((recvM : Memref sig .tc .vmem S3x1x512 .f32).slice (slotR k) (fun _ => rfl)).squeeze S1x512 squeezes_S1x1x512_S1x512

/-- The column of a position of the buffer, as a position of a row. -/
def col (i : S3x1x512.Idx) : S1x1x512.Idx := fun a => match a with
  | ⟨0, _⟩ => ⟨0, Nat.one_pos⟩
  | ⟨1, _⟩ => ⟨0, Nat.one_pos⟩
  | ⟨2, _⟩ => ⟨(i (2 : Fin 3)).val, (i (2 : Fin 3)).isLt⟩

/-- The row `w` in every slot. -/
def fill (w : Row F) : S3x1x512.Idx → Elt F .f32 := fun i => w (col i)

theorem col_emb (k : Fin 3) (x : S1x1x512.Idx) : col ((slotR k).emb x) = x := by
  have h0 : (x (0 : Fin 3)).val < 1 := (x (0 : Fin 3)).isLt
  have h1 : (x (1 : Fin 3)).val < 1 := (x (1 : Fin 3)).isLt
  funext a
  apply Fin.ext
  match a with
  | ⟨0, _⟩ => show 0 = (x (0 : Fin 3)).val; omega
  | ⟨1, _⟩ => show 0 = (x (1 : Fin 3)).val; omega
  | ⟨2, _⟩ => show 0 + 1 * (x (2 : Fin 3)).val = (x (2 : Fin 3)).val; omega

theorem mem_slot {k : Fin 3} {i : S3x1x512.Idx} (h : i ∈ slotSet k) : ∃ x : S1x1x512.Idx, (slotR k).emb x = i := by
  unfold slotSet at h
  rw [← Rect.map_emb_univ] at h
  obtain ⟨x, -, hx⟩ := Finset.mem_map.mp h
  exact ⟨x, hx⟩

/-- Different slots share no position. -/
theorem slot_disjoint {j k : Fin 3} (h : j ≠ k) : Disjoint (slotSet j) (slotSet k) := by
  rw [Finset.disjoint_left]
  intro i hj hk
  obtain ⟨x, hx⟩ := mem_slot hj
  obtain ⟨y, hy⟩ := mem_slot hk
  have h0 := congrArg (fun z : S3x1x512.Idx => (z (0 : Fin 3)).val) (hx.trans hy.symm)
  have hx0 : (x (0 : Fin 3)).val < 1 := (x (0 : Fin 3)).isLt
  have hy0 : (y (0 : Fin 3)).val < 1 := (y (0 : Fin 3)).isLt
  change j.val + 1 * (x (0 : Fin 3)).val = k.val + 1 * (y (0 : Fin 3)).val at h0
  exact h (Fin.ext (by omega))

/-- Every position lies in one of the three slots. -/
theorem slot_cover (i : S3x1x512.Idx) : i ∈ slotSet ⟨(i (0 : Fin 3)).val, (i (0 : Fin 3)).isLt⟩ := by
  have h1 : (i (1 : Fin 3)).val < 1 := (i (1 : Fin 3)).isLt
  unfold slotSet
  refine (LoadRect.mem_set (r := (slotR ⟨(i (0 : Fin 3)).val, (i (0 : Fin 3)).isLt⟩).toLoadRect)).mpr fun a => ?_
  match a with
  | ⟨0, _⟩ => exact ⟨0, Nat.one_pos, by show (i (0 : Fin 3)).val = (i (0 : Fin 3)).val + 1 * 0; omega⟩
  | ⟨1, _⟩ => exact ⟨0, Nat.one_pos, by show (i (1 : Fin 3)).val = 0 + 1 * 0; omega⟩
  | ⟨2, _⟩ => exact ⟨(i (2 : Fin 3)).val, (i (2 : Fin 3)).isLt, by show (i (2 : Fin 3)).val = 0 + 1 * (i (2 : Fin 3)).val; omega⟩

/-! ### The positions the kernel's loads, stores and transfers touch -/

theorem send_set (k : Fin 3) : (sendSlot k).view.set = slotSet k :=
  (View.set_reshape _ _).trans (View.set_slice_whole _ _)
theorem recv_set (k : Fin 3) : (recvSlot k).view.set = slotSet k :=
  (View.set_reshape _ _).trans (View.set_slice_whole _ _)

theorem setOn_whole (b : Ref sig .tc) (s : Finset b.ty.shape.Idx) : (View.whole b).setOn s = s := by
  unfold View.setOn; exact Finset.map_refl

theorem send_load_sub (k : Fin 3) : (sendM : Memref sig .tc .vmem S3x1x512 .f32).view.setOn (slotR k).toLoadRect.set ⊆ slotSet k := by
  show (View.whole cc0_scratch0).setOn (slotR k).set ⊆ (slotR k).set
  rw [setOn_whole]
theorem recv_load_sub (k : Fin 3) : (recvM : Memref sig .tc .vmem S3x1x512 .f32).view.setOn (slotR k).toLoadRect.set ⊆ slotSet k := by
  show (View.whole cc0_scratch1).setOn (slotR k).set ⊆ (slotR k).set
  rw [setOn_whole]
theorem send_store_sub (k : Fin 3) :
    ((sendM : Memref sig .tc .vmem S3x1x512 .f32).access (slotR k) : View sig .tc _ _ _).setOn Finset.univ ⊆ slotSet k := by
  show ((View.whole cc0_scratch0).slice (slotR k)).set ⊆ (slotR k).set
  rw [View.set_slice_whole]

/-! ### What they read and write -/

/-- A load of a filled slot of the send buffer reads the row; -/
theorem send_load (k : Fin 3) (w : Row F) :
    (sendM : Memref sig .tc .vmem S3x1x512 .f32).view.readAt (Elt F) (slotR k).toLoadRect (fill w) = w :=
  funext fun x => congrArg w (col_emb k x)
/-- so does a load of a filled slot of the receive buffer. -/
theorem recv_load (k : Fin 3) (w : Row F) :
    (recvM : Memref sig .tc .vmem S3x1x512 .f32).view.readAt (Elt F) (slotR k).toLoadRect (fill w) = w :=
  funext fun x => congrArg w (col_emb k x)

/-- A store of the row `w` fills the slot with `w`. -/
theorem send_store (k : Fin 3) (f : S3x1x512.Idx → Elt F .f32) (w : Row F) (i : S3x1x512.Idx) (hi : i ∈ slotSet k) :
    ((sendM : Memref sig .tc .vmem S3x1x512 .f32).access (slotR k) : View sig .tc _ _ _).write (Elt F) f w Finset.univ i = fill w i := by
  obtain ⟨x, rfl⟩ := mem_slot hi
  refine (View.write_emb_of_mem (v := ((sendM : Memref sig .tc .vmem S3x1x512 .f32).access (slotR k) : View sig .tc _ _ _)) f w (Finset.mem_univ x)).trans ?_
  exact (congrArg w (col_emb k x)).symm

/-- A transfer from slot `k` of the send buffer to slot `k` of the receive buffer carries the contents over. -/
theorem transfer (k : Fin 3) (fd fs : S3x1x512.Idx → Elt F .f32) (i : S3x1x512.Idx) (hi : i ∈ slotSet k) :
    (recvSlot k).view.write (Elt F) fd ((sendSlot k).view.read (Elt F) fs) Finset.univ i = fs i := by
  have hi' : i ∈ (recvSlot k).view.set := (congrArg (fun s => i ∈ s) (recv_set k)).mpr hi
  obtain ⟨x, -, hx⟩ := Finset.mem_map.mp hi'
  have hs : (sendSlot k).view.emb x = i := hx
  refine (congrArg ((recvSlot k).view.write (Elt F) fd ((sendSlot k).view.read (Elt F) fs) Finset.univ) hx.symm).trans ?_
  refine (View.write_emb_of_mem (v := (recvSlot k).view) fd _ (Finset.mem_univ x)).trans ?_
  exact congrArg fs hs

end Cert.ScanProof

end
-- ==== Proof.Protocol.lean ====
/-
The butterfly's protocol: who signals whom, what each semaphore's one round carries, what each device owes.

Step k (k = 0, 1, 2) pairs device c with its partner `peer k c`, whose number differs from c's in bit k. Every
device has seven semaphore cells: the barrier cell, and for each step a send cell and a receive cell. Each cell has
one round:

* the barrier cell of c has three duties of one unit; duty k is paid by c's partner at step k and brings
  that partner's receive slot k, which c's transfer of step k is to fill;
* the receive cell k of c has one duty of the slot's credit, paid by the transfer of c's partner; it brings c's
  receive slot k filled with the partner's row;
* the send cell k of c has one duty of the same credit, paid by c's own transfer; it brings back the half share of
  the send slot k that the transfer read from. The other half stays with c, which reads the slot in the meantime.
-/
module

public import proofs.«01_k».proof.Proof.Slots

@[expose] public section

noncomputable section

namespace Cert.ScanProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The rounds' ghost state: duties are named by the step, 0 to 2. -/
abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every counter zero, any generator registers. -/
def s₀ : MemSt nD τ sig (Elt F) := ⟨m, fun _ => 0, ρ⟩

/-! ### Partners -/

theorem peer_lt (k : Fin 3) (c : Dev nD) : c.val ^^^ 2 ^ k.val < nD := by
  revert k c; decide

/-- The partner of device `c` at step `k`: the device whose number differs from `c`'s in bit `k` alone. -/
def peer (k : Fin 3) (c : Dev nD) : Dev nD := ⟨c.val ^^^ 2 ^ k.val, peer_lt k c⟩

/-- Partners come in pairs. -/
theorem peer_peer (k : Fin 3) (c : Dev nD) : peer k (peer k c) = c := by revert k c; decide

/-- The three signals go to the three partners, -/
theorem dev1_eq (c : Dev nD) : (⟨k0_dev1 c, k0_dev1_lt c⟩ : Dev nD) = peer 0 c := by revert c; decide +kernel
theorem dev2_eq (c : Dev nD) : (⟨k0_dev2 c, k0_dev2_lt c⟩ : Dev nD) = peer 1 c := by revert c; decide +kernel
theorem dev3_eq (c : Dev nD) : (⟨k0_dev3 c, k0_dev3_lt c⟩ : Dev nD) = peer 2 c := by revert c; decide +kernel
/-- and so do the three transfers. -/
theorem dev4_eq (c : Dev nD) : (⟨k0_dev4 c, k0_dev4_lt c⟩ : Dev nD) = peer 0 c := by revert c; decide +kernel
theorem dev5_eq (c : Dev nD) : (⟨k0_dev5 c, k0_dev5_lt c⟩ : Dev nD) = peer 1 c := by revert c; decide +kernel
theorem dev6_eq (c : Dev nD) : (⟨k0_dev6 c, k0_dev6_lt c⟩ : Dev nD) = peer 2 c := by revert c; decide +kernel

/-! ### The cells -/

/-- The barrier semaphore, the send semaphores and the receive semaphores. -/
abbrev barS : Sem sig := (SemArray.scalar (sig.barrier 0 rfl) : Sems sig S_).sem
theorem sem_inb (k : Fin 3) : ∀ a : Fin 1, (![k.val] : Fin 1 → Nat) a + S1.size a ≤ S3.size a := by revert k; decide
abbrev sendS (k : Fin 3) : DmaSem sig := ((cc0_scratch2.slice (Rect.unit (s := S3) ![k.val] S1.size (sem_inb k))).squeeze S_ squeezes_S1_S_).sem
abbrev recvS (k : Fin 3) : DmaSem sig := ((cc0_scratch3.slice (Rect.unit (s := S3) ![k.val] S1.size (sem_inb k))).squeeze S_ squeezes_S1_S_).sem

/-- The kernel's own semaphores: `(false, k)` the send semaphore of step `k`, `(true, k)` the receive semaphore. -/
abbrev osem : Bool × Fin 3 → SemLoc sig := fun j => if j.1 then .dma (recvS j.2) else .dma (sendS j.2)
/-- All seven: `none` is the barrier. -/
abbrev csem : Option (Bool × Fin 3) → SemLoc sig := fun j => match j with
  | none => .reg barS
  | some j => osem j
abbrev kcell (ck : Dev nD × Option (Bool × Fin 3)) : GSem nD τ sig := ((ck.1 : Thread nD τ), csem ck.2)
abbrev barCell (c : Dev nD) : GSem nD τ sig := ((c : Thread nD τ), .reg barS)
abbrev sendCell (k : Fin 3) (c : Dev nD) : GSem nD τ sig := ((c : Thread nD τ), .dma (sendS k))
abbrev recvCell (k : Fin 3) (c : Dev nD) : GSem nD τ sig := ((c : Thread nD τ), .dma (recvS k))

theorem osem_inj : Function.Injective osem := by decide
theorem csem_inj : Function.Injective csem := by
  intro a b h
  match a, b with
  | none, none => rfl
  | none, some (false, k) => cases h
  | none, some (true, k) => cases h
  | some (false, k), none => cases h
  | some (true, k), none => cases h
  | some a, some b => exact congrArg some (osem_inj h)

theorem kcell_inj : Function.Injective kcell := by
  rintro ⟨c, j⟩ ⟨c', j'⟩ h
  have h1 := congrArg (fun g : GSem nD τ sig => g.1.1) h
  have h2 : csem j = csem j' := congrArg Prod.snd h
  exact Prod.ext h1 (csem_inj h2)

/-- Which of the seven a semaphore is, if any. -/
def kind (sm : SemLoc sig) : Option (Option (Bool × Fin 3)) :=
  [none, some (false, 0), some (false, 1), some (false, 2), some (true, 0), some (true, 1), some (true, 2)].find? fun j => decide (csem j = sm)

theorem kind_csem (j : Option (Bool × Fin 3)) : kind (csem j) = some j := by
  have hf : (kind (csem j)).isSome := by
    unfold kind
    rw [List.find?_isSome]
    exact ⟨j, by revert j; decide, decide_eq_true rfl⟩
  obtain ⟨a, ha⟩ := Option.isSome_iff_exists.mp hf
  have h1 := List.find?_some (show List.find? _ _ = some a from ha)
  rw [ha, csem_inj (of_decide_eq_true h1)]

/-- The credit of one slot's transfer. -/
abbrev N : ℕ := (recvSlot 0).view.dmaCredit
theorem N_pos : 0 < N := View.dmaCredit_pos _ (by decide)

/-! ### The rows the devices exchange -/

/-- Device `c`'s block of the input, as staged. -/
def xstg (c : Dev nD) : (cc0_stg0_0 : Ref sig .tc).ty.Contents (Elt F) :=
  (win0_0.blk (0 : Fin 1)).view.read (Elt F) ((s₀ m ρ).mem ((c : Thread nD τ).loc main_arg0))

/-- The row device `c` sends at step 0, -/
def row0 (c : Dev nD) : Row F := k0_pay2 (k0_pay1 (xstg m ρ c))
/-- at step 1, -/
def row1 (c : Dev nD) : Row F := k0_pay5 (row0 m ρ c) (row0 m ρ (peer 0 c))
/-- at step 2: -/
def row2 (c : Dev nD) : Row F := k0_pay9 (k0_pay8 (row1 m ρ c)) (row1 m ρ (peer 1 c))
/-- the row device `c` sends at step `k`. -/
def row (k : Fin 3) (c : Dev nD) : Row F := match k with
  | 0 => row0 m ρ c
  | 1 => row1 m ρ c
  | 2 => row2 m ρ c

/-- Device `c`'s number as the kernel computes it. -/
def word (c : Dev nD) : BitVec 32 := Scalar.remsi (Scalar.divsi (Dev.word c) 1#32) 8#32

/-- The block device `c` stores as its result. -/
def outAt (c : Dev nD) : (cc0_stg1_0 : Ref sig .tc).ty.Contents (Elt F) :=
  k0_pay11 (word c) (Scalar.xori (word c) 4#32)
    (k0_pay10 (word c) (Scalar.xori (word c) 2#32)
      (k0_pay7 (k0_pay4 (k0_pay3 (xstg m ρ c)) (Scalar.ofBits .f32 0x3F800000#32))
        (k0_pay6 (word c) (Scalar.xori (word c) 1#32) (row0 m ρ (peer 0 c))))
      (row1 m ρ (peer 1 c)))
    (row2 m ρ (peer 2 c))

/-! ### Holding a slot -/

/-- Device `c` holds share `q` of slot `k` of its send buffer, at contents `f`. -/
def sendPts (k : Fin 3) (c : Dev nD) (q : PosShare TreeShare) (f : S3x1x512.Idx → Elt F .f32) : sProp 𝕄 :=
  ((c : Thread nD τ).loc cc0_scratch0) ↦[slotSet k]{q} f
/-- Device `c`'s slot `k` of its receive buffer is held whole, at contents `f`. -/
def recvPts (k : Fin 3) (c : Dev nD) (f : S3x1x512.Idx → Elt F .f32) : sProp 𝕄 :=
  ((c : Thread nD τ).loc cc0_scratch1) ↦[slotSet k]{fullShare} f

omit [FloatOps F] in
instance sendPts_storable (k : Fin 3) (c : Dev nD) (q) (f) : BI.Storable (upEmb : UEmb _ 𝕄) (sendPts (F := F) k c q f) := by
  unfold sendPts; infer_instance
omit [FloatOps F] in
instance recvPts_storable (k : Fin 3) (c : Dev nD) (f) : BI.Storable (upEmb : UEmb _ 𝕄) (recvPts (F := F) k c f) := by
  unfold recvPts; infer_instance

omit [FloatOps F] in
theorem sendPts_congr (k : Fin 3) (c : Dev nD) (q : PosShare TreeShare) {f g : S3x1x512.Idx → Elt F .f32} (h : ∀ i ∈ slotSet k, f i = g i) :
    (sendPts k c q f : sProp 𝕄) = sendPts k c q g := pointsTo_congr h
omit [FloatOps F] in
theorem recvPts_congr (k : Fin 3) (c : Dev nD) {f g : S3x1x512.Idx → Elt F .f32} (h : ∀ i ∈ slotSet k, f i = g i) :
    (recvPts k c f : sProp 𝕄) = recvPts k c g := pointsTo_congr h
omit [FloatOps F] in
/-- A send slot held whole is two halves of it. -/
theorem sendPts_halves (k : Fin 3) (c : Dev nD) (f : S3x1x512.Idx → Elt F .f32) :
    (sendPts k c fullShare f : sProp 𝕄) ⊣⊢ iprop(sendPts k c fullShare.left f ∗ sendPts k c fullShare.right f) :=
  pointsTo_share (PosShare.mem_left_op_right fullShare)

omit [FloatOps F] in
/-- A whole send buffer is its three slots; -/
theorem send_split (c : Dev nD) (f : S3x1x512.Idx → Elt F .f32) :
    (((c : Thread nD τ).loc cc0_scratch0) ↦{fullShare} f : sProp 𝕄)
      = iprop(sendPts 0 c fullShare f ∗ sendPts 1 c fullShare f ∗ sendPts 2 c fullShare f) := by
  have hu : (Finset.univ : Finset S3x1x512.Idx) = Finset.univ.biUnion slotSet :=
    (Finset.eq_univ_of_forall fun i => Finset.mem_biUnion.mpr ⟨_, Finset.mem_univ _, slot_cover i⟩).symm
  refine (congrArg (fun S => (((c : Thread nD τ).loc cc0_scratch0) ↦[S]{fullShare} f : sProp 𝕄)) hu).trans ?_
  refine (pointsTo_biUnion (ℓ := (c : Thread nD τ).loc cc0_scratch0) Finset.univ slotSet fun j _ k _ h => slot_disjoint h).trans ?_
  exact (bigSep_univ_eq_bigSepL [0, 1, 2] (by decide) (by decide) _).trans (by rw [bigSepL_cons_cons, bigSepL_cons_cons, bigSepL_singleton]; rfl)
omit [FloatOps F] in
/-- and so is a whole receive buffer. -/
theorem recv_split (c : Dev nD) (f : S3x1x512.Idx → Elt F .f32) :
    (((c : Thread nD τ).loc cc0_scratch1) ↦{fullShare} f : sProp 𝕄)
      = iprop(recvPts 0 c f ∗ recvPts 1 c f ∗ recvPts 2 c f) := by
  have hu : (Finset.univ : Finset S3x1x512.Idx) = Finset.univ.biUnion slotSet :=
    (Finset.eq_univ_of_forall fun i => Finset.mem_biUnion.mpr ⟨_, Finset.mem_univ _, slot_cover i⟩).symm
  refine (congrArg (fun S => (((c : Thread nD τ).loc cc0_scratch1) ↦[S]{fullShare} f : sProp 𝕄)) hu).trans ?_
  refine (pointsTo_biUnion (ℓ := (c : Thread nD τ).loc cc0_scratch1) Finset.univ slotSet fun j _ k _ h => slot_disjoint h).trans ?_
  exact (bigSep_univ_eq_bigSepL [0, 1, 2] (by decide) (by decide) _).trans (by rw [bigSepL_cons_cons, bigSepL_cons_cons, bigSepL_singleton]; rfl)

/-- Contents that hold a different array in each slot. -/
def glue (f g h : S3x1x512.Idx → Elt F .f32) : S3x1x512.Idx → Elt F .f32 := fun i =>
  if i ∈ slotSet 0 then f i else if i ∈ slotSet 1 then g i else h i

omit [FloatOps F] in
theorem glue0 (f g h : S3x1x512.Idx → Elt F .f32) (i : S3x1x512.Idx) (hi : i ∈ slotSet 0) : f i = glue f g h i := (if_pos hi).symm
omit [FloatOps F] in
theorem glue1 (f g h : S3x1x512.Idx → Elt F .f32) (i : S3x1x512.Idx) (hi : i ∈ slotSet 1) : g i = glue f g h i := by
  unfold glue
  rw [if_neg (Finset.disjoint_right.mp (slot_disjoint (by decide : (0 : Fin 3) ≠ 1)) hi), if_pos hi]
omit [FloatOps F] in
theorem glue2 (f g h : S3x1x512.Idx → Elt F .f32) (i : S3x1x512.Idx) (hi : i ∈ slotSet 2) : h i = glue f g h i := by
  unfold glue
  rw [if_neg (Finset.disjoint_right.mp (slot_disjoint (by decide : (0 : Fin 3) ≠ 2)) hi),
    if_neg (Finset.disjoint_right.mp (slot_disjoint (by decide : (1 : Fin 3) ≠ 2)) hi)]

omit [FloatOps F] in
/-- Three held slots make up the send buffer; -/
theorem send_join (c : Dev nD) (f g h : S3x1x512.Idx → Elt F .f32) :
    iprop(sendPts 0 c fullShare f ∗ sendPts 1 c fullShare g ∗ sendPts 2 c fullShare h)
      = (((c : Thread nD τ).loc cc0_scratch0) ↦{fullShare} glue f g h : sProp 𝕄) := by
  rw [send_split, sendPts_congr 0 c _ (glue0 f g h), sendPts_congr 1 c _ (glue1 f g h), sendPts_congr 2 c _ (glue2 f g h)]
omit [FloatOps F] in
/-- and the receive buffer. -/
theorem recv_join (c : Dev nD) (f g h : S3x1x512.Idx → Elt F .f32) :
    iprop(recvPts 0 c f ∗ recvPts 1 c g ∗ recvPts 2 c h)
      = (((c : Thread nD τ).loc cc0_scratch1) ↦{fullShare} glue f g h : sProp 𝕄) := by
  rw [recv_split, recvPts_congr 0 c (glue0 f g h), recvPts_congr 1 c (glue1 f g h), recvPts_congr 2 c (glue2 f g h)]

/-! ### The schedule -/

/-- What duty `k` of `c`'s barrier cell brings: the partner's receive slot `k`, whatever it holds. -/
def barPay (k : Fin 3) (c : Dev nD) : sProp 𝕄 := iprop(∃ f, recvPts k (peer k c) f)
/-- What the receive cell `k` of `c` brings: its receive slot `k`, filled with its partner's row. -/
def recvPay (k : Fin 3) (c : Dev nD) : sProp 𝕄 := recvPts k c (fill (row m ρ k (peer k c)))
/-- What the send cell `k` of `c` brings: the half share of its send slot `k` it lent to the transfer. -/
def sendPay (k : Fin 3) (c : Dev nD) : sProp 𝕄 := sendPts k c fullShare.left (fill (row m ρ k c))

/-- The duties of a cell's one round. -/
def dutiesOf (j : Option (Option (Bool × Fin 3))) : Finset (Fin 3) := match j with
  | none => ∅
  | some none => Finset.univ
  | some (some _) => {0}
/-- The units each of its duties brings. -/
def amountOf (j : Option (Option (Bool × Fin 3))) : ℕ := match j with
  | some (some _) => N
  | _ => 1
/-- What each of its duties brings. -/
def payloadOf (j : Option (Option (Bool × Fin 3))) (c : Dev nD) (d : Fin 3) : sProp 𝕄 := match j with
  | none => iprop(emp)
  | some none => barPay d c
  | some (some (true, k)) => recvPay m ρ k c
  | some (some (false, k)) => sendPay m ρ k c

/-- The schedule: round 0 as the cell's kind says, no other round. -/
def rd : Rounds.Schedule (GSem nD τ sig) (Fin 3) 𝕄 where
  duties g r := if r = 0 ∧ g.1.2 = .tc then dutiesOf (kind g.2) else ∅
  unitless _ := False
  amount g _ _ := amountOf (kind g.2)
  payload g _ d := payloadOf m ρ (kind g.2) g.1.1 d
  amount_pos g _ _ _ := by
    unfold amountOf
    split
    · exact N_pos
    · exact Nat.one_pos

instance rd_payload_storable (g : GSem nD τ sig) (r : ℕ) (d : Fin 3) :
    BI.Storable (upEmb : UEmb _ 𝕄) ((rd (F := F) m ρ).payload g r d) := by
  show BI.Storable upEmb (payloadOf m ρ (kind g.2) g.1.1 d)
  unfold payloadOf barPay recvPay sendPay
  split <;> infer_instance

theorem duties_at (c : Dev nD) (j : Option (Bool × Fin 3)) : (rd (F := F) m ρ).duties (kcell (c, j)) 0 = dutiesOf (some j) :=
  (show (if 0 = 0 ∧ (kcell (c, j)).1.2 = .tc then dutiesOf (kind (csem j)) else ∅) = dutiesOf (some j) by
    rw [if_pos ⟨rfl, rfl⟩, kind_csem])
theorem duties_later (g : GSem nD τ sig) : ∀ r, 1 ≤ r → (rd (F := F) m ρ).duties g r = ∅ :=
  fun r hr => if_neg fun h => by have := h.1; omega
theorem amount_at (c : Dev nD) (j : Option (Bool × Fin 3)) (d : Fin 3) : (rd (F := F) m ρ).amount (kcell (c, j)) 0 d = amountOf (some j) :=
  congrArg amountOf (kind_csem j)
theorem payload_at (c : Dev nD) (j : Option (Bool × Fin 3)) (d : Fin 3) :
    (rd (F := F) m ρ).payload (kcell (c, j)) 0 d = payloadOf m ρ (some j) c d :=
  congrArg (fun k => payloadOf m ρ k c d) (kind_csem j)

/-- The barrier's round brings three units; -/
theorem expect_bar (c : Dev nD) : (rd (F := F) m ρ).expect (kcell (c, none)) 0 = 3 := by
  unfold Schedule.expect Schedule.amountOf
  rw [duties_at, Finset.sum_congr rfl fun d _ => amount_at m ρ c none d]
  rfl
/-- a send or receive cell's, one slot's credit. -/
theorem expect_xfer (c : Dev nD) (j : Bool × Fin 3) : (rd (F := F) m ρ).expect (kcell (c, some j)) 0 = N := by
  unfold Schedule.expect Schedule.amountOf
  rw [duties_at, Finset.sum_congr rfl fun d _ => amount_at m ρ c (some j) d]
  exact Finset.sum_singleton _ _

/-- The barrier's whole round brings the three partners' receive slots; -/
theorem rest_bar (c : Dev nD) : bigSep ((rd (F := F) m ρ).duties (kcell (c, none)) 0 \ ∅) (fun d => (rd (F := F) m ρ).payload (kcell (c, none)) 0 d)
    = iprop(barPay 0 c ∗ barPay 1 c ∗ barPay 2 c) := by
  rw [Finset.sdiff_empty, duties_at, bigSep_congr fun d _ => payload_at m ρ c none d]
  refine (bigSep_univ_eq_bigSepL [0, 1, 2] (by decide) (by decide) _).trans ?_
  rw [bigSepL_cons_cons, bigSepL_cons_cons, bigSepL_singleton]; rfl
/-- a send or receive cell's round brings its one payload. -/
theorem rest_xfer (c : Dev nD) (j : Bool × Fin 3) :
    bigSep ((rd (F := F) m ρ).duties (kcell (c, some j)) 0 \ ∅) (fun d => (rd (F := F) m ρ).payload (kcell (c, some j)) 0 d)
      = payloadOf m ρ (some (some j)) c 0 := by
  rw [Finset.sdiff_empty, duties_at, bigSep_congr fun d _ => payload_at m ρ c (some j) d]
  exact bigSep_singleton

/-! ### What a device owes, and the levels of the cells -/

/-- The credit device `c` owes its partner's receive cell at step `k`, -/
def dueR (k : Fin 3) (c : Dev nD) : CellTallies nD τ sig Unit := tallyAt (recvCell k (peer k c)) () N
/-- and the unit it owes its partner's barrier cell. -/
def dueB (k : Fin 3) (c : Dev nD) : CellTallies nD τ sig Unit := tallyAt (barCell (peer k c)) () 1

/-- What `c` owes after its signals, -/
def owedR (c : Dev nD) : CellTallies nD τ sig Unit := dueR 2 c + dueR 1 c + dueR 0 c
/-- and at launch, summed so that each signal takes the last summand off. -/
def O₀ (c : Dev nD) : CellTallies nD τ sig Unit := owedR c + dueB 2 c + dueB 1 c + dueB 0 c

def L (g : GSem nD τ sig) : Finset Unit := if g.1.2 = .tc then {()} else ∅
/-- The level of a cell: barrier 1, receive cell `k` at 2 + k, everything else 0. -/
def levOf (j : Option (Option (Bool × Fin 3))) : ℕ := match j with
  | some none => 1
  | some (some (true, k)) => 2 + k.val
  | _ => 0
def lv (g : GSem nD τ sig) (_ : Unit) : ℕ := levOf (kind g.2)

theorem L_of_ne (g : GSem nD τ sig) (h : g.1.2 ≠ .tc) : L g = ∅ := if_neg h
theorem L_tc (c : Dev nD) (sm : SemLoc sig) : L ((c : Thread nD τ), sm) = {()} := if_pos rfl
theorem lv_at (c : Dev nD) (j : Option (Bool × Fin 3)) (u : Unit) : lv (kcell (c, j)) u = levOf (some j) := congrArg levOf (kind_csem j)

/-- All of `O` is owed to cells above level `n`. -/
def Above (n : ℕ) (O : CellTallies nD τ sig Unit) : Prop :=
  ∀ g u, 0 < O g u → ∃ c j, g = kcell (c, j) ∧ n < levOf (some j)

theorem above_add {n : ℕ} {O D : CellTallies nD τ sig Unit} (hO : Above n O) (hD : Above n D) : Above n (O + D) := fun g u h => by
  rw [Pi.add_apply, Finsupp.add_apply] at h
  rcases Nat.eq_zero_or_pos (O g u) with h0 | h0
  · exact hD g u (by omega)
  · exact hO g u h0
theorem above_tally {n k : ℕ} (c : Dev nD) (j : Option (Bool × Fin 3)) (h : n < levOf (some j)) : Above n (tallyAt (kcell (c, j)) () k) := fun g u hg => by
  rw [tallyAt_apply] at hg
  by_cases hc : g = kcell (c, j) ∧ u = ()
  · exact ⟨c, j, hc.1, h⟩
  · rw [if_neg hc] at hg; exact absurd hg (Nat.lt_irrefl 0)
theorem above_dueR {n : ℕ} (k : Fin 3) (c : Dev nD) (h : n < 2 + k.val) : Above n (dueR k c) := above_tally (peer k c) (some (true, k)) h
theorem above_dueB {n : ℕ} (k : Fin 3) (c : Dev nD) (h : n < 1) : Above n (dueB k c) := above_tally (peer k c) none h

theorem above_owedR (c : Dev nD) : Above 1 (owedR c) :=
  above_add (above_add (above_dueR 2 c (by decide)) (above_dueR 1 c (by decide))) (above_dueR 0 c (by decide))
theorem above_O₀ (c : Dev nD) : Above 0 (O₀ c) :=
  above_add (above_add (above_add
    (above_add (above_add (above_dueR 2 c (by decide)) (above_dueR 1 c (by decide))) (above_dueR 0 c (by decide)))
    (above_dueB 2 c (by decide))) (above_dueB 1 c (by decide))) (above_dueB 0 c (by decide))

omit [FloatOps F] in
/-- A device may wait at a cell of level at most `n` while all it owes is above `n`. -/
theorem mayWait (c : Dev nD) (sm : SemLoc sig) (n : ℕ) (hn : lv ((c : Thread nD τ), sm) () ≤ n) {O : CellTallies nD τ sig Unit} (hO : Above n O) :
    (levAts L lv : sProp 𝕄) ⊢ MayWait (c : Thread nD τ) sm () O :=
  MayOwe.of_cut (L := L) (lev := lv) n
    (fun p hp => by rw [Finset.mem_singleton.mp hp, L_tc]; exact Finset.mem_singleton_self _)
    (fun g u hg => by obtain ⟨c', j, rfl, -⟩ := hO g u hg; rw [L_tc]; exact Finset.mem_singleton_self _)
    (fun p hp => by rw [Finset.mem_singleton.mp hp]; exact hn)
    (fun g u hg => by obtain ⟨c', j, rfl, h⟩ := hO g u hg; rw [lv_at]; exact h)

end Cert.ScanProof

end
-- ==== Proof.Butterfly.lean ====
/-
What the three exchanges bring together, over the extended reals: the products of the rows of all lower-numbered
devices, and with them the block each device stores.
-/
module

public import proofs.«01_k».proof.Proof.Block
public import proofs.«01_k».proof.Proof.Protocol

@[expose] public section

noncomputable section

namespace Cert.ScanProof

open Cert.KernelIdeal Cert.KernelIdeal.Gen
open Idealize.ShloMosaic
open Idealize.ShloMosaic.TcCoe
open Idealize.ShloMosaic.ValueIdx
open scoped BigOperators
open Finset

/-! ### Which partners' rows count -/

/-- The kernel's comparison of its partner's number with its own says whether the partner is lower-numbered. -/
theorem lower_iff (c : Dev nD) :
    (Scalar.cmpi .slt (Scalar.xori (word c) 1#32) (word c) = 1#1 ↔ (peer 0 c).val < c.val)
    ∧ (Scalar.cmpi .slt (Scalar.xori (word c) 2#32) (word c) = 1#1 ↔ (peer 1 c).val < c.val)
    ∧ (Scalar.cmpi .slt (Scalar.xori (word c) 4#32) (word c) = 1#1 ↔ (peer 2 c).val < c.val) := by
  revert c; decide +kernel

/-- Of the groups of one, two and four devices that the three partners stand for, the lower-numbered ones together
    are exactly the devices below `c`. -/
theorem prod_below {M : Type*} [CommMonoid M] (B : ℕ → M) (c : Dev nD) :
    ((if (peer 0 c).val < c.val then B (peer 0 c).val else 1)
      * (if (peer 1 c).val < c.val then B (peer 1 c).val * B (peer 0 (peer 1 c)).val else 1))
      * (if (peer 2 c).val < c.val then (B (peer 2 c).val * B (peer 0 (peer 2 c)).val)
          * (B (peer 1 (peer 2 c)).val * B (peer 0 (peer 1 (peer 2 c))).val) else 1)
      = ∏ d ∈ range c.val, B d := by
  fin_cases c <;> simp [peer, prod_range_succ] <;> ac_rfl

/-! ### The rows exchanged -/

variable (m : (ℓ : Loc nD τ sig) → Buf (Elt Ideal) ℓ) (ρ : Dev nD → PrngReg)

/-- The product of all of device `c`'s rows, in column `l`. -/
def rowsProd (c : Dev nD) (l : Fin 512) : EReal := ∏ i ∈ range 512, column (xstg m ρ c) l i

/-- A row of the exchange, read at column `l`. -/
abbrev atCol (v : S1x1x512.Idx → EReal) (l : Fin 512) : EReal := v (ix3 (0 : Fin 1) (0 : Fin 1) l)

/-- The first row sent is the device's own product; -/
theorem row0_apply (c : Dev nD) (l : Fin 512) : atCol (row0 m ρ c) l = rowsProd m ρ c l := pay2_apply (xstg m ρ c) l

/-- two rows merged are multiplied, -/
theorem pay5_apply (a b : Vec Ideal S1x1x512 .f32) (l : Fin 512) : atCol (k0_pay5 a b) l = atCol a l * atCol b l := by
  unfold k0_pay5 atCol
  simp only
  rw [shapeCast_ab_1ab_apply, mulf_apply, shapeCast_1ab_ab_apply, shapeCast_1ab_ab_apply]

/-- at either exchange; -/
theorem pay9_apply (a b : Vec Ideal S1x1x512 .f32) (l : Fin 512) : atCol (k0_pay9 (k0_pay8 a) b) l = atCol a l * atCol b l :=
  pay5_apply a b l

/-- so the second row sent is the product over a pair of devices, -/
theorem row1_apply (c : Dev nD) (l : Fin 512) : atCol (row1 m ρ c) l = rowsProd m ρ c l * rowsProd m ρ (peer 0 c) l := by
  unfold row1; rw [pay5_apply, row0_apply, row0_apply]

/-- and the third the product over two pairs. -/
theorem row2_apply (c : Dev nD) (l : Fin 512) : atCol (row2 m ρ c) l
    = (rowsProd m ρ c l * rowsProd m ρ (peer 0 c) l) * (rowsProd m ρ (peer 1 c) l * rowsProd m ρ (peer 0 (peer 1 c)) l) := by
  unfold row2; rw [pay9_apply, row1_apply, row1_apply]

/-! ### The block stored -/

/-- A row taken only under a condition, and one otherwise. -/
theorem chosen_apply (b : BitVec 1) (v : Vec Ideal S1x1x512 .f32) (h : S1x1x512.ShapeCasts S1x512) (l : Fin 512) :
    (Scalar.select b (shapeCast S1x512 v h) (broadcast S1x512 (Scalar.ofBits .f32 0x3F800000#32 : Ideal .f32)) : FVec Ideal S1x512 .f32)
        (ix2 (0 : Fin 1) l)
      = if b = 1#1 then atCol v l else 1 := by
  unfold Scalar.select
  by_cases hb : b = 1#1
  · rw [if_pos hb, if_pos (show b = 1 from hb)]; exact shapeCast_1ab_ab_apply v h 0 l
  · rw [if_neg hb, if_neg (show ¬ b = 1 from hb)]; exact one_f32

/-- Row `r` of the block a device stores: the running product of its own rows, times the product of all rows of the
    devices below it. -/
theorem outAt_apply (c : Dev nD) (r l : Fin 512) (B : ℕ → EReal) (hB : ∀ d : Dev nD, rowsProd m ρ d l = B d.val) :
    outAt m ρ c (ix2 r l) = (∏ d ∈ range c.val, B d) * ∏ i ∈ range (r.val + 1), column (xstg m ρ c) l i := by
  rw [← prod_below B c]
  unfold outAt k0_pay11 k0_pay10 k0_pay6
  simp only
  rw [mulf_apply, mulf_apply, own_scan, spread_apply, spread_apply, chosen_apply, chosen_apply, chosen_apply,
    row0_apply, row1_apply, row2_apply]
  simp only [(lower_iff c).1, (lower_iff c).2.1, (lower_iff c).2.2, hB]
  ac_rfl

end Cert.ScanProof

end
-- ==== Proof.Steps.lean ====
/-
One rule for each kind of step the body takes: a signal to a partner, the wait at the barrier, a transfer to a
partner, a wait at a send or receive semaphore, a load or store of a slot. Each is stated for every step k.
-/
module

public import proofs.«01_k».proof.Proof.Protocol

@[expose] public section

noncomputable section

namespace Cert.ScanProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- Every cell's invariant, under the names `K`, and the fact that every cell has reached its round 0. -/
def recs (K : Dev nD × Option (Bool × Fin 3) → ℕ) : sProp 𝕄 :=
  iprop((bigSep Finset.univ fun ck : Dev nD × Option (Bool × Fin 3) => cellInv ER (rd m ρ) (K ck) (kcell ck))
    ∗ bigSep Finset.univ fun ck : Dev nD × Option (Bool × Fin 3) => reached ER (kcell ck) 0)

instance recs_persistent (K : Dev nD × Option (Bool × Fin 3) → ℕ) : BI.Persistent (recs m ρ K) := by unfold recs; infer_instance

omit [FloatOps F] in
/-- What device `c` owes is `O`, whatever waits it has recorded. -/
def owing (c : Dev nD) (O : CellTallies nD τ sig Unit) : sProp 𝕄 := iprop(∃ W, owes (c : Thread nD τ) O W)

variable (K : Dev nD × Option (Bool × Fin 3) → ℕ)

theorem rec_inv (ck : Dev nD × Option (Bool × Fin 3)) : (recs m ρ K : sProp 𝕄) ⊢ cellInv ER (rd m ρ) (K ck) (kcell ck) := by
  have h : (bigSep Finset.univ fun ck : Dev nD × Option (Bool × Fin 3) => (cellInv ER (rd m ρ) (K ck) (kcell ck) : sProp 𝕄))
      ⊢ cellInv ER (rd m ρ) (K ck) (kcell ck) := bigSep_elim (Finset.mem_univ ck)
  unfold recs
  iintro ⟨HI, -⟩
  iapply h; iexact HI
theorem rec_reached (ck : Dev nD × Option (Bool × Fin 3)) : (recs m ρ K : sProp 𝕄) ⊢ reached ER (kcell ck) 0 := by
  have h : (bigSep Finset.univ fun ck : Dev nD × Option (Bool × Fin 3) => (reached ER (kcell ck) 0 : sProp 𝕄)) ⊢ reached ER (kcell ck) 0 :=
    bigSep_elim (Finset.mem_univ ck)
  unfold recs
  iintro ⟨-, HR⟩
  iapply h; iexact HR

/-- A signal to the partner of step `k` pays duty `k` of the partner's barrier cell and lends it `c`'s receive slot `k`. -/
theorem step_signal {α : Type} {Q : α → sProp 𝕄} (k : Fin 3) (c n : Dev nD) (hn : n = peer k c) (O : CellTallies nD τ sig Unit)
    {kont : PUnit → Prog (TpuEff nD τ sig (Elt F) Λ₀ .tc) α} :
    iprop(recs m ρ K ∗ owing c (O + dueB k c) ∗ dutyTok ER (barCell (peer k c)) 0 k ∗ (∃ f, recvPts k c f))
      ⊢ iprop((owing c O -∗ wp frame (wpE (defs₀ (F := F)) 𝒱₀ (c : Thread nD τ) none) Set.univ (kont ⟨⟩) Q)
          -∗ wp frame (wpE (defs₀ (F := F)) 𝒱₀ (c : Thread nD τ) none) Set.univ (.op (.semSignal (n : Thread nD τ) barS (1#32 : BitVec 32).toInt) kont) Q) := by
  subst hn
  have hd : k ∈ (rd (F := F) m ρ).duties (kcell (peer k c, none)) 0 := by rw [duties_at]; exact Finset.mem_univ _
  have hk : (rd (F := F) m ρ).amount (kcell (peer k c, none)) 0 k = 1 := amount_at m ρ (peer k c) none k
  unfold owing
  iintro ⟨#HR, ⟨%W, HO⟩, Ht, Hs⟩ Hk
  iapply (Rounds.wp_signal 𝒱₀ ER (rd m ρ) (c : Thread nD τ) none (dst := (peer k c : Thread nD τ)) (κ := K (peer k c, none))
      (d := k) hd (hk.trans (by decide)) () O rfl) $$ [HO Ht Hs]
  · isplitr; · iapply (rec_inv m ρ K (peer k c, none)); iexact HR
    isplitl [HO]; · iexact HO
    isplitl [Ht]; · iexact Ht
    isplitl [Hs]
    · iapply (Entails.of_eq (payload_at m ρ (peer k c) none k).symm)
      unfold payloadOf barPay
      rw [peer_peer]
      iexact Hs
    · iapply (rec_reached m ρ K (peer k c, none)); iexact HR
  iintro HO
  iapply Hk
  iexists W
  iexact HO

/-- The wait at the barrier: the three partners' receive slots come with it. -/
theorem step_barrier {α : Type} {Q : α → sProp 𝕄} (c : Dev nD) {kont : PUnit → Prog (TpuEff nD τ sig (Elt F) Λ₀ .tc) α} :
    iprop(recs m ρ K ∗ levAts L lv ∗ cred (tallyAt (barCell c) () 3) ∗ owing c (owedR c) ∗ atPos ER (barCell c) 0 ∅ 0)
      ⊢ iprop(((owing c (owedR c) ∗ semVal (barCell c) 0 ∗ barPay 0 c ∗ barPay 1 c ∗ barPay 2 c)
            -∗ wp frame (wpE (defs₀ (F := F)) 𝒱₀ (c : Thread nD τ) none) Set.univ (kont ⟨⟩) Q)
          -∗ wp frame (wpE (defs₀ (F := F)) 𝒱₀ (c : Thread nD τ) none) Set.univ (.op (.semWait barS (3#32 : BitVec 32).toInt) kont) Q) := by
  unfold owing
  iintro ⟨#HR, #Hlev, Hc, ⟨%W, HO⟩, Hat⟩ Hk
  iapply (Rounds.wp_wait_rest_token 𝒱₀ ER (rd m ρ) (c : Thread nD τ) none (κ := K (c, none))
      (wpE_semWait_eq 𝒱₀ (c : Thread nD τ) none Set.univ) (Set.mem_univ _) () (O := owedR c) (W := W) (R := 0) (m := 0) (T := ∅)
      ((show 0 + 3 = (rd (F := F) m ρ).expect (kcell (c, none)) 0 by rw [expect_bar]))) $$ [Hc HO Hat]
  · isplitr; · iapply (rec_inv m ρ K (c, none)); iexact HR
    isplitl [Hc]; · iexact Hc
    isplitl [HO]; · iexact HO
    isplitr
    · iapply (mayWait (F := F) c (.reg barS) 1 (le_of_eq (lv_at c none ())) (above_owedR c)); iexact Hlev
    iexact Hat
  iintro ⟨HO, Hat, -, Hp⟩
  imod (Rounds.cell_close ER (rd m ρ) (Set.mem_univ (K (c, none))) (fun h => h) (R := 0 + 1) (duties_later m ρ (barCell c))) $$ [Hat] with Hz
  · isplitr; · iapply (rec_inv m ρ K (c, none)); iexact HR
    iexact Hat
  iapply Hk
  isplitl [HO]; · iexists _; iexact HO
  isplitl [Hz]; · iexact Hz
  iapply (Entails.of_eq (rest_bar m ρ c)); iexact Hp

/-- A slot of the send buffer, held through the view a transfer reads it by; -/
theorem sendPts_view (k : Fin 3) (c : Dev nD) (q : PosShare TreeShare) (f : S3x1x512.Idx → Elt F .f32) :
    (((sendSlot k).view.loc (c : Thread nD τ)) ↦[(sendSlot k).view.set]{q} f : sProp 𝕄) = sendPts k c q f :=
  congrArg (fun S => (((c : Thread nD τ).loc cc0_scratch0) ↦[S]{q} f : sProp 𝕄)) (send_set k)
/-- a slot of the receive buffer, held through the view a transfer writes it by. -/
theorem recvPts_view (k : Fin 3) (c : Dev nD) (f : S3x1x512.Idx → Elt F .f32) :
    (((recvSlot k).view.loc (c : Thread nD τ)) ↦[(recvSlot k).view.set]{fullShare} f : sProp 𝕄) = recvPts k c f :=
  congrArg (fun S => (((c : Thread nD τ).loc cc0_scratch1) ↦[S]{fullShare} f : sProp 𝕄)) (recv_set k)

/-- The lent half of the send slot is what the send cell's duty brings; -/
theorem pay_send (k : Fin 3) (c : Dev nD) :
    (((sendSlot k).view.loc (c : Thread nD τ)) ↦[(sendSlot k).view.set]{fullShare.left} (fill (row m ρ k c)) : sProp 𝕄)
      ⊢ (rd m ρ).payload (sendCell k c) 0 0 :=
  Entails.of_eq ((sendPts_view k c _ _).trans (payload_at m ρ c (some (false, k)) 0).symm)

/-- the partner's receive slot, written by the transfer, is what its receive cell's duty brings. -/
theorem pay_recv (k : Fin 3) (c : Dev nD) (fd : S3x1x512.Idx → Elt F .f32) :
    (((recvSlot k).view.loc (peer k c : Thread nD τ)) ↦[(recvSlot k).view.set]{fullShare}
        ((recvSlot k).view.write (Elt F) fd ((sendSlot k).view.read (Elt F) (fill (row m ρ k c))) Finset.univ) : sProp 𝕄)
      ⊢ (rd m ρ).payload (recvCell k (peer k c)) 0 0 := by
  refine Entails.of_eq ((recvPts_view k (peer k c) _).trans (Eq.trans ?_ (payload_at m ρ (peer k c) (some (true, k)) 0).symm))
  refine (recvPts_congr k (peer k c) (transfer k fd (fill (row m ρ k c)))).trans ?_
  show recvPts k (peer k c) (fill (row m ρ k c)) = recvPts k (peer k c) (fill (row m ρ k (peer k (peer k c))))
  rw [peer_peer]

/-- Every slot's transfer brings the same credit. -/
theorem credit_recv (k : Fin 3) : (recvSlot k).view.dmaCredit = N := rfl
theorem credit_send (k : Fin 3) : (sendSlot k).view.dmaCredit = N := rfl

/-- The transfer of step `k`: it takes half of `c`'s send slot and the partner's receive slot, and pays the partner's
    receive cell; what is left is the credit to wait for `c`'s own send cell. -/
theorem step_send {α : Type} {Q : α → sProp 𝕄} (k : Fin 3) (c n : Dev nD) (hn : n = peer k c) (O : CellTallies nD τ sig Unit)
    {hsc : (recvSlot k : Memref sig (Dev.tc n : Thread nD τ).2.kind .vmem S1x512 .f32).view.ref.isScScratch = false}
    {hsrc : (sendSlot k).view.WordExact} {hdst : (recvSlot k).view.WordExact}
    {hsem : DmaTarget.Typed .vmem (.dma (recvS k)) (.remote (Dev.tc n : Thread nD τ) (recvSlot k) (.dma (sendS k)) hsc)}
    {kont : PUnit → Prog (TpuEff nD τ sig (Elt F) Λ₀ .tc) α} :
    iprop(recs m ρ K ∗ sendPts k c fullShare.left (fill (row m ρ k c)) ∗ (∃ f, recvPts k (peer k c) f) ∗ owing c (O + dueR k c)
        ∗ dutyTok ER (sendCell k c) 0 0 ∗ dutyTok ER (recvCell k (peer k c)) 0 0)
      ⊢ iprop(((cred (tallyAt (sendCell k c) () N) ∗ owing c O) -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (sendSlot k) (.remote (Dev.tc n : Thread nD τ) (recvSlot k) (.dma (sendS k)) hsc) (.dma (recvS k)) hsrc hdst hsem) kont) Q) := by
  subst hn
  have hd₁ : (0 : Fin 3) ∈ (rd (F := F) m ρ).duties (sendCell k c) 0 :=
    (congrArg (fun s => (0 : Fin 3) ∈ s) (duties_at m ρ c (some (false, k)))).mpr (Finset.mem_singleton_self _)
  have hd₂ : (0 : Fin 3) ∈ (rd (F := F) m ρ).duties (recvCell k (peer k c)) 0 :=
    (congrArg (fun s => (0 : Fin 3) ∈ s) (duties_at m ρ (peer k c) (some (true, k)))).mpr (Finset.mem_singleton_self _)
  have ha₁ : (rd (F := F) m ρ).amount (sendCell k c) 0 0 = N := amount_at m ρ c (some (false, k)) 0
  have ha₂ : (rd (F := F) m ρ).amount (recvCell k (peer k c)) 0 0 = N := amount_at m ρ (peer k c) (some (true, k)) 0
  unfold owing dueR
  iintro ⟨#HR, Hs, ⟨%fd, Hd⟩, ⟨%W, HO⟩, Ht₁, Ht₂⟩ Hk
  ihave Hs := (Entails.of_eq (sendPts_view k c fullShare.left (fill (row m ρ k c))).symm) $$ Hs
  ihave Hd := (Entails.of_eq (recvPts_view k (peer k c) fd).symm) $$ Hd
  iapply (Rounds.wp_send_pointsTo 𝒱₀ ER (rd m ρ) (c : Thread nD τ) none (κ₁ := K (c, some (false, k))) (κ₂ := K (peer k c, some (true, k)))
    (c' := (peer k c : Thread nD τ)) (src := sendSlot k) (dst := recvSlot k) (r₁ := 0) (r₂ := 0) (d₁ := 0) (d₂ := 0) (q := fullShare.left) (fs := fill (row m ρ k c)) (fd := fd)
    hd₁ hd₂ () () N (credit_recv k) ha₁ ha₂ O rfl (W := W) (pay_send m ρ k c) (pay_recv m ρ k c fd)) $$ [Hs Hd HO Ht₁ Ht₂]
  · isplitr; · iapply (rec_inv m ρ K (c, some (false, k))); iexact HR
    isplitr; · iapply (rec_inv m ρ K (peer k c, some (true, k))); iexact HR
    isplitl [Hs]; · iexact Hs
    isplitl [Hd]; · iexact Hd
    isplitl [HO]; · iexact HO
    isplitl [Ht₁]; · iexact Ht₁
    isplitr; · iapply (rec_reached m ρ K (c, some (false, k))); iexact HR
    isplitl [Ht₂]; · iexact Ht₂
    iapply (rec_reached m ρ K (peer k c, some (true, k))); iexact HR
  iintro ⟨Hc, HO⟩
  iapply Hk
  isplitl [Hc]; · iexact Hc
  iexists W
  iexact HO

/-- A wait at a send or receive semaphore: the cell's payload comes with it, and the cell is closed. -/
theorem step_wait {α : Type} {Q : α → sProp 𝕄} (j : Bool × Fin 3) (q : DmaSem sig) (hq : SemLoc.dma q = osem j) (c : Dev nD) (n : ℕ) (hn : levOf (some (some j)) ≤ n)
    {O : CellTallies nD τ sig Unit} (hO : Above n O) {src dst : Memref sig .tc .vmem S1x512 .f32} (hN : dst.view.dmaCredit = N)
    {hsrc : src.view.WordExact} {hdst : dst.view.WordExact} {kont : PUnit → Prog (TpuEff nD τ sig (Elt F) Λ₀ .tc) α} :
    iprop(recs m ρ K ∗ levAts L lv ∗ cred (tallyAt ((c : Thread nD τ), .dma q) () N) ∗ owing c O ∗ atPos ER ((c : Thread nD τ), .dma q) 0 ∅ 0)
      ⊢ iprop(((owing c O ∗ semVal ((c : Thread nD τ), .dma q) 0 ∗ payloadOf m ρ (some (some j)) c 0)
            -∗ wp frame (wpE (defs₀ (F := F)) 𝒱₀ (c : Thread nD τ) none) Set.univ (kont ⟨⟩) Q)
          -∗ wp frame (wpE (defs₀ (F := F)) 𝒱₀ (c : Thread nD τ) none) Set.univ (.op (.waitDma2 q src dst hsrc hdst) kont) Q) := by
  have hg : (((c : Thread nD τ), .dma q) : GSem nD τ sig) = kcell (c, some j) := Prod.ext rfl hq
  have hinv : (recs m ρ K : sProp 𝕄) ⊢ cellInv ER (rd m ρ) (K (c, some j)) ((c : Thread nD τ), .dma q) := by
    rw [hg]; exact rec_inv m ρ K (c, some j)
  unfold owing
  iintro ⟨#HR, #Hlev, Hc, ⟨%W, HO⟩, Hat⟩ Hk
  iapply (Rounds.wp_wait_rest_token 𝒱₀ ER (rd m ρ) (c : Thread nD τ) none (κ := K (c, some j))
      (wpE_waitDma2_eq 𝒱₀ (c : Thread nD τ) none Set.univ) (Set.mem_univ _) () (O := O) (W := W) (R := 0) (m := 0) (T := ∅)
      (by rw [hg, expect_xfer, hN, Nat.zero_add])) $$ [Hc HO Hat]
  · isplitr; · iapply hinv; iexact HR
    isplitl [Hc]; · rw [hN]; iexact Hc
    isplitl [HO]; · iexact HO
    isplitr
    · iapply (mayWait (F := F) c (.dma q) n (by rw [hg, lv_at]; exact hn) hO); iexact Hlev
    iexact Hat
  iintro ⟨HO, Hat, -, Hp⟩
  imod (Rounds.cell_close ER (rd m ρ) (Set.mem_univ (K (c, some j))) (fun h => h) (R := 0 + 1) (duties_later m ρ ((c : Thread nD τ), .dma q))) $$ [Hat] with Hz
  · isplitr; · iapply hinv; iexact HR
    iexact Hat
  iapply Hk
  isplitl [HO]; · iexists _; iexact HO
  isplitl [Hz]; · iexact Hz
  iapply (Entails.of_eq (rest_xfer m ρ c j))
  rw [← hg]
  iexact Hp

/-! ### Loads and stores of slots -/

/-- A load of a send slot, whatever it holds; -/
theorem step_peek {α : Type} {Q : α → sProp 𝕄} (k : Fin 3) (c : Dev nD) (q : PosShare TreeShare) (f : S3x1x512.Idx → Elt F .f32) {h}
    {kont : ((slotR k).toLoadRect.shape.Idx → Elt F .f32) → Prog (TpuEff nD τ sig (Elt F) Λ₀ .tc) α} :
    (sendPts k c q f : sProp 𝕄)
      ⊢ iprop((sendPts k c q f -∗ wp frame (wpE (defs₀ (F := F)) 𝒱₀ (c : Thread nD τ) none) Set.univ
            (kont ((sendM : Memref sig .tc .vmem S3x1x512 .f32).view.readAt (Elt F) (slotR k).toLoadRect f)) Q)
          -∗ wp frame (wpE (defs₀ (F := F)) 𝒱₀ (c : Thread nD τ) none) Set.univ (.op (.load sendM (slotR k).toLoadRect h) kont) Q) :=
  wp_load 𝒱₀ (c : Thread nD τ) none Set.univ (m := sendM) (send_load_sub k)

/-- of a receive slot, whatever it holds; -/
theorem step_peek_recv {α : Type} {Q : α → sProp 𝕄} (k : Fin 3) (c : Dev nD) (f : S3x1x512.Idx → Elt F .f32) {h}
    {kont : ((slotR k).toLoadRect.shape.Idx → Elt F .f32) → Prog (TpuEff nD τ sig (Elt F) Λ₀ .tc) α} :
    (recvPts k c f : sProp 𝕄)
      ⊢ iprop((recvPts k c f -∗ wp frame (wpE (defs₀ (F := F)) 𝒱₀ (c : Thread nD τ) none) Set.univ
            (kont ((recvM : Memref sig .tc .vmem S3x1x512 .f32).view.readAt (Elt F) (slotR k).toLoadRect f)) Q)
          -∗ wp frame (wpE (defs₀ (F := F)) 𝒱₀ (c : Thread nD τ) none) Set.univ (.op (.load recvM (slotR k).toLoadRect h) kont) Q) :=
  wp_load 𝒱₀ (c : Thread nD τ) none Set.univ (m := recvM) (recv_load_sub k)

/-- of a send slot filled with the row `w`: it reads `w`; -/
theorem step_load_send {α : Type} {Q : α → sProp 𝕄} (k : Fin 3) (c : Dev nD) (q : PosShare TreeShare) (w : Row F) {h}
    {kont : ((slotR k).toLoadRect.shape.Idx → Elt F .f32) → Prog (TpuEff nD τ sig (Elt F) Λ₀ .tc) α} :
    (sendPts k c q (fill w) : sProp 𝕄)
      ⊢ iprop((sendPts k c q (fill w) -∗ wp frame (wpE (defs₀ (F := F)) 𝒱₀ (c : Thread nD τ) none) Set.univ (kont w) Q)
          -∗ wp frame (wpE (defs₀ (F := F)) 𝒱₀ (c : Thread nD τ) none) Set.univ (.op (.load sendM (slotR k).toLoadRect h) kont) Q) := by
  have hl := step_peek (Q := Q) k c q (fill w) (h := h) (kont := kont)
  rw [send_load k w] at hl
  exact hl

/-- of a receive slot filled with the row `w`: the same. -/
theorem step_load_recv {α : Type} {Q : α → sProp 𝕄} (k : Fin 3) (c : Dev nD) (w : Row F) {h}
    {kont : ((slotR k).toLoadRect.shape.Idx → Elt F .f32) → Prog (TpuEff nD τ sig (Elt F) Λ₀ .tc) α} :
    (recvPts k c (fill w) : sProp 𝕄)
      ⊢ iprop((recvPts k c (fill w) -∗ wp frame (wpE (defs₀ (F := F)) 𝒱₀ (c : Thread nD τ) none) Set.univ (kont w) Q)
          -∗ wp frame (wpE (defs₀ (F := F)) 𝒱₀ (c : Thread nD τ) none) Set.univ (.op (.load recvM (slotR k).toLoadRect h) kont) Q) := by
  have hl := step_peek_recv (Q := Q) k c (fill w) (h := h) (kont := kont)
  rw [recv_load k w] at hl
  exact hl

/-- A store of the row `w` to a send slot held whole fills it with `w`. -/
theorem step_store {α : Type} {Q : α → sProp 𝕄} (k : Fin 3) (c : Dev nD) (f : S3x1x512.Idx → Elt F .f32) (w : Row F) {h h'}
    {kont : PUnit → Prog (TpuEff nD τ sig (Elt F) Λ₀ .tc) α} :
    (sendPts k c fullShare f : sProp 𝕄)
      ⊢ iprop((sendPts k c fullShare (fill w) -∗ wp frame (wpE (defs₀ (F := F)) 𝒱₀ (c : Thread nD τ) none) Set.univ (kont ⟨⟩) Q)
          -∗ wp frame (wpE (defs₀ (F := F)) 𝒱₀ (c : Thread nD τ) none) Set.univ (.op (.store sendM (slotR k) w Finset.univ h h') kont) Q) := by
  rw [← sendPts_congr k c fullShare (send_store k f w)]
  exact wp_store 𝒱₀ (c : Thread nD τ) none Set.univ (m := sendM) (r := slotR k) (Mk := Finset.univ) (send_store_sub k)

end Cert.ScanProof

end
-- ==== Proof.Body.lean ====
/-
The kernel's body on one device, executed step by step from what the device starts with to the stored block.
-/
module

public import proofs.«01_k».proof.Proof.Steps

@[expose] public section

noncomputable section

namespace Cert.ScanProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ### What a device starts and ends with -/

omit [FloatOps F] in
/-- The positions of `c`'s seven cells at their round 0, -/
def positions (c : Dev nD) : sProp 𝕄 :=
  iprop(atPos ER (barCell c) 0 ∅ 0
    ∗ (atPos ER (sendCell 0 c) 0 ∅ 0 ∗ atPos ER (sendCell 1 c) 0 ∅ 0 ∗ atPos ER (sendCell 2 c) 0 ∅ 0)
    ∗ atPos ER (recvCell 0 c) 0 ∅ 0 ∗ atPos ER (recvCell 1 c) 0 ∅ 0 ∗ atPos ER (recvCell 2 c) 0 ∅ 0)
omit [FloatOps F] in
/-- the tokens `c` pays its duties with, step by step: the partner's barrier cell's, the partner's receive cell's,
    its own send cell's. -/
def payToks (c : Dev nD) : sProp 𝕄 :=
  iprop((dutyTok ER (barCell (peer 0 c)) 0 0 ∗ dutyTok ER (barCell (peer 1 c)) 0 1 ∗ dutyTok ER (barCell (peer 2 c)) 0 2)
    ∗ (dutyTok ER (recvCell 0 (peer 0 c)) 0 0 ∗ dutyTok ER (recvCell 1 (peer 1 c)) 0 0 ∗ dutyTok ER (recvCell 2 (peer 2 c)) 0 0)
    ∗ dutyTok ER (sendCell 0 c) 0 0 ∗ dutyTok ER (sendCell 1 c) 0 0 ∗ dutyTok ER (sendCell 2 c) 0 0)
omit [FloatOps F] in
/-- and the credit for the units the other devices owe its barrier and receive cells. -/
def credits (c : Dev nD) : sProp 𝕄 :=
  iprop(cred (tallyAt (barCell c) () 3)
    ∗ cred (tallyAt (recvCell 0 c) () N) ∗ cred (tallyAt (recvCell 1 c) () N) ∗ cred (tallyAt (recvCell 2 c) () N))

/-- A device's share of the protocol, at some names for the cells' invariants. -/
def ghost (K : Dev nD × Option (Bool × Fin 3) → ℕ) (c : Dev nD) : sProp 𝕄 := iprop(recs m ρ K ∗ positions c ∗ payToks c)
def start (c : Dev nD) : sProp 𝕄 := iprop((∃ K, ghost m ρ K c) ∗ credits c ∗ levAts L lv)

omit [FloatOps F] in
/-- The two scratch buffers, whatever they hold. -/
def scratch (c : Dev nD) : sProp 𝕄 :=
  iprop((∃ f : S3x1x512.Idx → Elt F .f32, (((c : Thread nD τ).loc cc0_scratch0) ↦{fullShare} f))
    ∗ ∃ f : S3x1x512.Idx → Elt F .f32, (((c : Thread nD τ).loc cc0_scratch1) ↦{fullShare} f))

def Φ₀ (c : Dev nD) : sProp 𝕄 := iprop(start m ρ c ∗ scratch c)
/-- After the body: the scratch buffers, and the seven semaphores at zero. -/
def Φ₁ (c : Dev nD) : sProp 𝕄 :=
  iprop(scratch c ∗ semVal (barCell c) 0
    ∗ (semVal (sendCell 0 c) 0 ∗ semVal (sendCell 1 c) 0 ∗ semVal (sendCell 2 c) 0)
    ∗ semVal (recvCell 0 c) 0 ∗ semVal (recvCell 1 c) 0 ∗ semVal (recvCell 2 c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

omit [FloatOps F] in
/-- A window's staging buffer held whole at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-! ### The input block and the result block -/

abbrev xM : Memref sig .tc .vmem S512x512 .bf16 := Memref.whole cc0_stg0_0
abbrev oM : Memref sig .tc .vmem S512x512 .f32 := Memref.whole cc0_stg1_0
abbrev rB : Rect S512x512 := Rect.unit (s := S512x512) ![0, 0] S512x512.size inb_S512x512_S512x512_0_0

theorem hz : (![0, 0] : Fin 2 → Nat) = fun _ => 0 := funext fun a => by fin_cases a <;> rfl
omit [FloatOps F] in
theorem read_x (f : (cc0_stg0_0 : Ref sig .tc).ty.Contents (Elt F)) : (xM : Memref sig .tc .vmem S512x512 .bf16).view.readAt (Elt F) rB.toLoadRect f = f :=
  Memref.readAt_unit_zero (Elt F) cc0_stg0_0 hz _ f
omit [FloatOps F] in
theorem write_out (f w : (cc0_stg1_0 : Ref sig .tc).ty.Contents (Elt F)) :
    ((oM : Memref sig .tc .vmem S512x512 .f32).access rB : View sig .tc _ _ _).write (Elt F) f w Finset.univ = w :=
  Memref.write_access_unit_zero_univ (Elt F) cc0_stg1_0 hz _ f w

/-! ### The body -/

/-- Nothing owed is above every level. -/
theorem above_zero {n : ℕ} : Above n 0 := fun g u h => absurd h (Nat.lt_irrefl 0)

def bodyPre (K : Dev nD × Option (Bool × Fin 3) → ℕ) (c : Dev nD) : sProp 𝕄 :=
  iprop((ghost m ρ K c ∗ credits c ∗ levAts L lv ∗ scratch c)
    ∗ owing c (O₀ c) ∗ stg c cc0_stg0_0 (xstg m ρ c) ∗ ∃ d, stg c cc0_stg1_0 d)
def bodyPost (c : Dev nD) : sProp 𝕄 :=
  iprop(Φ₁ c ∗ owing c 0 ∗ stg c cc0_stg0_0 (xstg m ρ c) ∗ stg c cc0_stg1_0 (outAt m ρ c))

set_option maxHeartbeats 1600000 in
/-- The body runs from `bodyPre` to `bodyPost`. -/
theorem sound_body (K : Dev nD × Option (Bool × Fin 3) → ℕ) (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton]
  unfold k0_part1_skel k0_part2_skel k0_part3_skel k0_part4_skel k0_part5_skel k0_part6_skel
  simp only [semSignalWord, semWaitWord, Prog.lift, Prog.bind_op, Prog.bind_ret, Prog.pure_eq_ret, wp_deviceId]
  unfold bodyPre ghost positions payToks credits scratch
  iintro ⟨⟨⟨⟨#HR, ⟨HaB, ⟨HaS0, HaS1, HaS2⟩, HaV0, HaV1, HaV2⟩, ⟨HtB0, HtB1, HtB2⟩, ⟨HtV0, HtV1, HtV2⟩, HtS0, HtS1, HtS2⟩,
    ⟨HcB, HcV0, HcV1, HcV2⟩, #Hlev, ⟨%fs, Hs⟩, ⟨%fr, Hr⟩⟩, HO, ⟨%g0, %hg0, Hx⟩, ⟨%d1, %g1, %hg1, Hout⟩⟩, Hk⟩
  subst hg0
  ihave Hs := (Entails.of_eq (send_split c fs)) $$ Hs
  icases Hs with ⟨Hs0, Hs1, Hs2⟩
  ihave Hr := (Entails.of_eq (recv_split c fr)) $$ Hr
  icases Hr with ⟨Hr0, Hr1, Hr2⟩
  -- the three signals
  iapply (step_signal m ρ K 0 c _ (dev1_eq c) (owedR c + dueB 2 c + dueB 1 c)) $$ [HO HtB0 Hr0]
  · isplitr; · iexact HR
    isplitl [HO]; · iexact HO
    isplitl [HtB0]; · iexact HtB0
    iexists fr; iexact Hr0
  iintro HO
  iapply (step_signal m ρ K 1 c _ (dev2_eq c) (owedR c + dueB 2 c)) $$ [HO HtB1 Hr1]
  · isplitr; · iexact HR
    isplitl [HO]; · iexact HO
    isplitl [HtB1]; · iexact HtB1
    iexists fr; iexact Hr1
  iintro HO
  iapply (step_signal m ρ K 2 c _ (dev3_eq c) (owedR c)) $$ [HO HtB2 Hr2]
  · isplitr; · iexact HR
    isplitl [HO]; · iexact HO
    isplitl [HtB2]; · iexact HtB2
    iexists fr; iexact Hr2
  iintro HO
  -- the block's product, stored in slot 0
  iapply (wp_load 𝒱₀ (c : Thread nD τ) none Set.univ (m := xM) (Finset.subset_univ _)) $$ Hx; iintro Hx
  rw [read_x]
  iapply (step_peek 0 c fullShare fs) $$ Hs0; iintro Hs0
  iapply (step_store 0 c fs (row0 m ρ c)) $$ Hs0; iintro Hs0
  -- the wait at the barrier: the partners' receive slots
  iapply (step_barrier m ρ K c) $$ [HcB HO HaB]
  · isplitr; · iexact HR
    isplitr; · iexact Hlev
    isplitl [HcB]; · iexact HcB
    isplitl [HO]; · iexact HO
    iexact HaB
  iintro ⟨HO, HzB, Hp0, Hp1, Hp2⟩
  unfold barPay
  -- step 0
  unfold owedR
  ihave Hs0 := (sendPts_halves 0 c (fill (row0 m ρ c))).1 $$ Hs0
  icases Hs0 with ⟨Hl0, Hs0⟩
  iapply (step_send m ρ K 0 c _ (dev4_eq c) (dueR 2 c + dueR 1 c)) $$ [Hl0 Hp0 HO HtS0 HtV0]
  · isplitr; · iexact HR
    isplitl [Hl0]; · iexact Hl0
    isplitl [Hp0]; · iexact Hp0
    isplitl [HO]; · iexact HO
    isplitl [HtS0]; · iexact HtS0
    iexact HtV0
  iintro ⟨HcS0, HO⟩
  iapply (wp_load 𝒱₀ (c : Thread nD τ) none Set.univ (m := xM) (Finset.subset_univ _)) $$ Hx; iintro Hx
  rw [read_x]
  iapply (step_wait m ρ K (true, 0) _ rfl c 2 (le_refl _) (above_add (above_dueR 2 c (by decide)) (above_dueR 1 c (by decide))) (credit_recv 0)) $$ [HcV0 HO HaV0]
  · isplitr; · iexact HR
    isplitr; · iexact Hlev
    isplitl [HcV0]; · iexact HcV0
    isplitl [HO]; · iexact HO
    iexact HaV0
  iintro ⟨HO, HzV0, Hr0⟩
  ihave Hr0 := (Entails.of_eq (show payloadOf m ρ (some (some (true, 0))) c 0 = recvPts 0 c (fill (row0 m ρ (peer 0 c))) from rfl)) $$ Hr0
  iapply (step_load_send 0 c fullShare.right (row0 m ρ c)) $$ Hs0; iintro Hs0
  iapply (step_load_recv 0 c (row0 m ρ (peer 0 c))) $$ Hr0; iintro Hr0
  iapply (step_peek 1 c fullShare fs) $$ Hs1; iintro Hs1
  iapply (step_store 1 c fs (row1 m ρ c)) $$ Hs1; iintro Hs1
  iapply (step_load_recv 0 c (row0 m ρ (peer 0 c))) $$ Hr0; iintro Hr0
  -- step 1
  ihave Hs1 := (sendPts_halves 1 c (fill (row1 m ρ c))).1 $$ Hs1
  icases Hs1 with ⟨Hl1, Hs1⟩
  iapply (step_send m ρ K 1 c _ (dev5_eq c) (dueR 2 c)) $$ [Hl1 Hp1 HO HtS1 HtV1]
  · isplitr; · iexact HR
    isplitl [Hl1]; · iexact Hl1
    isplitl [Hp1]; · iexact Hp1
    isplitl [HO]; · iexact HO
    isplitl [HtS1]; · iexact HtS1
    iexact HtV1
  iintro ⟨HcS1, HO⟩
  iapply (step_wait m ρ K (true, 1) _ rfl c 3 (le_refl _) (above_dueR 2 c (by decide)) (credit_recv 1)) $$ [HcV1 HO HaV1]
  · isplitr; · iexact HR
    isplitr; · iexact Hlev
    isplitl [HcV1]; · iexact HcV1
    isplitl [HO]; · iexact HO
    iexact HaV1
  iintro ⟨HO, HzV1, Hr1⟩
  ihave Hr1 := (Entails.of_eq (show payloadOf m ρ (some (some (true, 1))) c 0 = recvPts 1 c (fill (row1 m ρ (peer 1 c))) from rfl)) $$ Hr1
  iapply (step_load_send 1 c fullShare.right (row1 m ρ c)) $$ Hs1; iintro Hs1
  iapply (step_load_recv 1 c (row1 m ρ (peer 1 c))) $$ Hr1; iintro Hr1
  iapply (step_peek 2 c fullShare fs) $$ Hs2; iintro Hs2
  iapply (step_store 2 c fs (row2 m ρ c)) $$ Hs2; iintro Hs2
  iapply (step_load_recv 1 c (row1 m ρ (peer 1 c))) $$ Hr1; iintro Hr1
  -- step 2
  rw [← zero_add (dueR 2 c)]
  ihave Hs2 := (sendPts_halves 2 c (fill (row2 m ρ c))).1 $$ Hs2
  icases Hs2 with ⟨Hl2, Hs2⟩
  iapply (step_send m ρ K 2 c _ (dev6_eq c) 0) $$ [Hl2 Hp2 HO HtS2 HtV2]
  · isplitr; · iexact HR
    isplitl [Hl2]; · iexact Hl2
    isplitl [Hp2]; · iexact Hp2
    isplitl [HO]; · iexact HO
    isplitl [HtS2]; · iexact HtS2
    iexact HtV2
  iintro ⟨HcS2, HO⟩
  iapply (step_wait m ρ K (true, 2) _ rfl c 4 (le_refl _) above_zero (credit_recv 2)) $$ [HcV2 HO HaV2]
  · isplitr; · iexact HR
    isplitr; · iexact Hlev
    isplitl [HcV2]; · iexact HcV2
    isplitl [HO]; · iexact HO
    iexact HaV2
  iintro ⟨HO, HzV2, Hr2⟩
  ihave Hr2 := (Entails.of_eq (show payloadOf m ρ (some (some (true, 2))) c 0 = recvPts 2 c (fill (row2 m ρ (peer 2 c))) from rfl)) $$ Hr2
  iapply (step_load_recv 2 c (row2 m ρ (peer 2 c))) $$ Hr2; iintro Hr2
  -- the result block
  iapply (wp_load 𝒱₀ (c : Thread nD τ) none Set.univ (m := oM) (Finset.subset_univ _)) $$ Hout; iintro Hout
  iapply (wp_store 𝒱₀ (c : Thread nD τ) none Set.univ (m := oM) (r := rB) (Mk := Finset.univ) (Finset.subset_univ _)) $$ Hout; iintro Hout
  rw [write_out]
  -- the lent halves of the send slots come back
  iapply (step_wait m ρ K (false, 0) _ rfl c 0 (le_refl _) above_zero (credit_send 0)) $$ [HcS0 HO HaS0]
  · isplitr; · iexact HR
    isplitr; · iexact Hlev
    isplitl [HcS0]; · iexact HcS0
    isplitl [HO]; · iexact HO
    iexact HaS0
  iintro ⟨HO, HzS0, Hl0⟩
  ihave Hl0 := (Entails.of_eq (show payloadOf m ρ (some (some (false, 0))) c 0 = sendPts 0 c fullShare.left (fill (row0 m ρ c)) from rfl)) $$ Hl0
  iapply (step_wait m ρ K (false, 1) _ rfl c 0 (le_refl _) above_zero (credit_send 1)) $$ [HcS1 HO HaS1]
  · isplitr; · iexact HR
    isplitr; · iexact Hlev
    isplitl [HcS1]; · iexact HcS1
    isplitl [HO]; · iexact HO
    iexact HaS1
  iintro ⟨HO, HzS1, Hl1⟩
  ihave Hl1 := (Entails.of_eq (show payloadOf m ρ (some (some (false, 1))) c 0 = sendPts 1 c fullShare.left (fill (row1 m ρ c)) from rfl)) $$ Hl1
  iapply (step_wait m ρ K (false, 2) _ rfl c 0 (le_refl _) above_zero (credit_send 2)) $$ [HcS2 HO HaS2]
  · isplitr; · iexact HR
    isplitr; · iexact Hlev
    isplitl [HcS2]; · iexact HcS2
    isplitl [HO]; · iexact HO
    iexact HaS2
  iintro ⟨HO, HzS2, Hl2⟩
  ihave Hl2 := (Entails.of_eq (show payloadOf m ρ (some (some (false, 2))) c 0 = sendPts 2 c fullShare.left (fill (row2 m ρ c)) from rfl)) $$ Hl2
  rw [wp_ret]; imodintro
  iapply Hk
  unfold bodyPost Φ₁ scratch
  isplitl [Hs0 Hs1 Hs2 Hl0 Hl1 Hl2 Hr0 Hr1 Hr2 HzB HzS0 HzS1 HzS2 HzV0 HzV1 HzV2]
  · isplitl [Hs0 Hs1 Hs2 Hl0 Hl1 Hl2 Hr0 Hr1 Hr2]
    · isplitl [Hs0 Hs1 Hs2 Hl0 Hl1 Hl2]
      · iexists (glue (fill (row0 m ρ c)) (fill (row1 m ρ c)) (fill (row2 m ρ c)))
        iapply (Entails.of_eq (send_join c _ _ _))
        isplitl [Hs0 Hl0]
        · iapply (sendPts_halves 0 c (fill (row0 m ρ c))).2
          isplitl [Hl0] <;> iassumption
        isplitl [Hs1 Hl1]
        · iapply (sendPts_halves 1 c (fill (row1 m ρ c))).2
          isplitl [Hl1] <;> iassumption
        · iapply (sendPts_halves 2 c (fill (row2 m ρ c))).2
          isplitl [Hl2] <;> iassumption
      · iexists (glue (fill (row0 m ρ (peer 0 c))) (fill (row1 m ρ (peer 1 c))) (fill (row2 m ρ (peer 2 c))))
        iapply (Entails.of_eq (recv_join c _ _ _))
        isplitl [Hr0]; · iexact Hr0
        isplitl [Hr1]; · iexact Hr1
        iexact Hr2
    isplitl [HzB]; · iexact HzB
    isplitl [HzS0 HzS1 HzS2]
    · isplitl [HzS0]; · iexact HzS0
      isplitl [HzS1]; · iexact HzS1
      iexact HzS2
    isplitl [HzV0]; · iexact HzV0
    isplitl [HzV1]; · iexact HzV1
    iexact HzV2
  isplitl [HO]; · iexact HO
  isplitl [Hx]
  · iexists _; isplitr; · (ipureintro; rfl)
    iexact Hx
  iexists _; isplitr; · (ipureintro; rfl)
  iexact Hout

end Cert.ScanProof

end
-- ==== Proof.Launch.lean ====
/-
The launch: the cells' invariants made for all devices at once, the tokens dealt to the partners that pay with
them, the credit for what each device is owed; and the run of the whole program.
-/
module

public import proofs.«01_k».proof.Proof.Body
public import proofs.«01_k».proof.Proof.Gen.KernelIdeal.Points
public import Idealize.ShloMosaic.Lib.Pipeline.CollectiveSegs

@[expose] public section

noncomputable section

namespace Cert.ScanProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ### The body as the pipeline asks for it -/

theorem dats_before0 (c : Dev nD) (d) : (dats m ρ 0 c).before (0 : Fin 2) t0_0 d = xstg m ρ c := by
  unfold Dat.before; rw [if_pos (fetch0_0 t0_0)]; rfl

def bodyPre' (c : Dev nD) : sProp 𝕄 :=
  iprop(Φ₀ m ρ c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))
def bodyPost' (c : Dev nD) : sProp 𝕄 :=
  iprop(Φ₁ c ∗ (dats m ρ 0 c).owesAt () t0_0.succ ∗ stg c cc0_stg0_0 (xstg m ρ c) ∗ stg c cc0_stg1_0 (outAt m ρ c))

theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _) cc0_scratch2 cc0_scratch3) (fun _ => bodyPost' m ρ c)
  unfold bodyPre' Φ₀ start
  simp only [dats_before0]
  unfold Dat.owesAt Pipeline.owesWithin
  rw [show (dats m ρ 0 c).owed t0_0.castSucc = O₀ c from rfl]
  iintro ⟨⟨⟨⟨%K, Hg⟩, Hc, Hl⟩, Hscr⟩, ⟨%W, %hW, HO⟩, ⟨%d0, Hx⟩, ⟨%d1, Hout⟩⟩
  iapply (sound_body m ρ K c fun _ => bodyPost' m ρ c)
  unfold bodyPre owing
  isplitr []
  · isplitl [Hg Hc Hl Hscr]
    · isplitl [Hg]; · iexact Hg
      isplitl [Hc]; · iexact Hc
      isplitl [Hl] <;> iassumption
    isplitl [HO]; · iexists W; iexact HO
    isplitl [Hx]; · iexact Hx
    iexists _; iexact Hout
  · unfold bodyPost bodyPost' owing Dat.owesAt Pipeline.owesWithin
    rw [show (dats m ρ 0 c).owed t0_0.succ = 0 from rfl]
    iintro ⟨H1, ⟨%W', HO⟩, H2, H3⟩
    isplitl [H1]; · iexact H1
    isplitl [HO]
    · iexists W'
      isplitr; · ipureintro; exact fun _ _ => Or.inl trivial
      iexact HO
    isplitl [H2] <;> iassumption

/-! ### The ghost state at launch -/

theorem ownSemFacts : Pipeline.OwnSemFacts cfg0.spec osem := by decide

theorem share_eq (c : Dev nD) (w : Fin cfg0.W) : (dats m ρ 0 c).share w = fullShare := by unfold Dat.share; split <;> rfl

def allCells : Finset (GSem nD τ sig) := Finset.univ.map ⟨kcell, kcell_inj⟩

/-- The duties of a device's own cells: its barrier's three, one for each send and receive cell. -/
abbrev tokOf (cj : Dev nD × (Fin 3 ⊕ (Bool × Fin 3))) : GSem nD τ sig × ℕ × Fin 3 := match cj.2 with
  | .inl k => (kcell (cj.1, none), 0, k)
  | .inr j => (kcell (cj.1, some j), 0, 0)

theorem tokOf_inj : Function.Injective tokOf := by
  rintro ⟨c, j⟩ ⟨c', j'⟩ h
  match j, j' with
  | .inl k, .inl k' =>
    have h1 := congrArg Prod.fst (kcell_inj (congrArg (fun x : GSem nD τ sig × ℕ × Fin 3 => x.1) h))
    have h2 : k = k' := congrArg (fun x : GSem nD τ sig × ℕ × Fin 3 => x.2.2) h
    exact Prod.ext h1 (congrArg Sum.inl h2)
  | .inr a, .inr a' =>
    have h1 := kcell_inj (congrArg (fun x : GSem nD τ sig × ℕ × Fin 3 => x.1) h)
    exact Prod.ext (show c = c' from congrArg Prod.fst h1) (congrArg Sum.inr (Option.some.inj (congrArg Prod.snd h1)))
  | .inl k, .inr a => cases congrArg Prod.snd (kcell_inj (congrArg (fun x : GSem nD τ sig × ℕ × Fin 3 => x.1) h))
  | .inr a, .inl k => cases congrArg Prod.snd (kcell_inj (congrArg (fun x : GSem nD τ sig × ℕ × Fin 3 => x.1) h))

def allToks : Finset (GSem nD τ sig × ℕ × Fin 3) := Finset.univ.map ⟨tokOf, tokOf_inj⟩

def u₀ : UU := (initOf (Pipeline.cells cfgs cellOf_inj) (Pipeline.launchToks cfgs cellOf_inj), initOf allCells allToks)

/-- The tokens of `c`'s own cells' duties, as minted. -/
def toks (c : Dev nD) : sProp 𝕄 :=
  bigSep Finset.univ fun j : Fin 3 ⊕ (Bool × Fin 3) => dutyTok ER (tokOf (c, j)).1 (tokOf (c, j)).2.1 (tokOf (c, j)).2.2

omit [FloatOps F] in
theorem toks_list (c : Dev nD) : (toks c : sProp 𝕄)
    = iprop(dutyTok ER (barCell c) 0 0 ∗ dutyTok ER (barCell c) 0 1 ∗ dutyTok ER (barCell c) 0 2
      ∗ dutyTok ER (recvCell 0 c) 0 0 ∗ dutyTok ER (recvCell 1 c) 0 0 ∗ dutyTok ER (recvCell 2 c) 0 0
      ∗ dutyTok ER (sendCell 0 c) 0 0 ∗ dutyTok ER (sendCell 1 c) 0 0 ∗ dutyTok ER (sendCell 2 c) 0 0) := by
  unfold toks
  rw [bigSep_univ_eq_bigSepL [.inl 0, .inl 1, .inl 2, .inr (true, 0), .inr (true, 1), .inr (true, 2), .inr (false, 0), .inr (false, 1), .inr (false, 2)]
    (by decide) (by decide)]
  simp only [bigSepL_cons_cons, bigSepL_singleton]
  rfl

/-- What the launch deals each device, -/
def G (c : Dev nD) : sProp 𝕄 :=
  iprop((bigSep Finset.univ fun j : Option (Bool × Fin 3) => roundState ER (rd m ρ) (kcell (c, j)) 0)
    ∗ (bigSep Finset.univ fun j : Option (Bool × Fin 3) => iprop(atPos ER (kcell (c, j)) 0 ∅ 0 ∗ reached ER (kcell (c, j)) 0)) ∗ toks c)
/-- and what the devices make of it together. -/
def G' (c : Dev nD) : sProp 𝕄 := iprop(∃ K, ghost m ρ K c)

theorem fund_all : BI.own (ER (initOf allCells allToks)) ⊢ (|==> bigSep Finset.univ (G m ρ) : sProp 𝕄) := by
  have hC (Φ : GSem nD τ sig → sProp 𝕄) : bigSep allCells Φ = bigSep Finset.univ fun c : Dev nD => bigSep Finset.univ fun j => Φ (kcell (c, j)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks toks; rw [bigSep_map, bigSep_univ_prod]; rfl
  iintro HX
  imod (Rounds.fund ER (rd m ρ) allCells allToks) $$ HX with ⟨Hst, Hr, Hat, Htok⟩
  imodintro
  ihave Hst := (Entails.of_eq (hC fun g => roundState ER (rd m ρ) g 0)) $$ Hst
  ihave Hat := (Entails.of_eq (hC fun g => atPos ER g 0 ∅ 0)) $$ Hat
  ihave Hr := (Entails.of_eq (hC fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

omit [FloatOps F] in
/-- A family over a device's seven cells, listed. -/
theorem bigSep_cells (Φ : Option (Bool × Fin 3) → sProp 𝕄) : bigSep Finset.univ Φ
    = iprop(Φ none ∗ Φ (some (false, 0)) ∗ Φ (some (false, 1)) ∗ Φ (some (false, 2)) ∗ Φ (some (true, 0)) ∗ Φ (some (true, 1)) ∗ Φ (some (true, 2))) := by
  rw [bigSep_univ_eq_bigSepL [none, some (false, 0), some (false, 1), some (false, 2), some (true, 0), some (true, 1), some (true, 2)]
    (by decide) (by decide)]
  simp only [bigSepL_cons_cons, bigSepL_singleton]
  rfl

omit [FloatOps F] in
theorem ownSems0_list (c : Dev nD) : (Pipeline.ownSems0 (Ix := Unit) (Name := ℕ) (U := UU) (Lvl := ℕ) (Val := Elt F) (τ := τ) osem c : sProp 𝕄)
    = iprop(semVal (sendCell 0 c) 0 ∗ semVal (sendCell 1 c) 0 ∗ semVal (sendCell 2 c) 0
      ∗ semVal (recvCell 0 c) 0 ∗ semVal (recvCell 1 c) 0 ∗ semVal (recvCell 2 c) 0) := by
  rw [Pipeline.ownSems0_eq_of_list c osem [(false, 0), (false, 1), (false, 2), (true, 0), (true, 1), (true, 2)] (by decide) (by decide)]
  simp only [bigSepL_cons_cons, bigSepL_singleton]
  rfl
omit [FloatOps F] in
/-- The barrier semaphore is the one semaphore that outlives the kernel. -/
theorem unscopedSems0_list (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0 (c : Dev nD) :
    iprop(Pipeline.ownSems0 (Ix := Unit) (Name := ℕ) (U := UU) (Lvl := ℕ) (Val := Elt F) (τ := τ) osem c ∗ unscopedSems0 c)
      ⊢ (bigSep Finset.univ fun j : Option (Bool × Fin 3) => semVal (kcell (c, j)) 0 : sProp 𝕄) := by
  rw [ownSems0_list, unscopedSems0_list, bigSep_cells]
  iintro ⟨HS, HB⟩
  isplitl [HB]; · iexact HB
  iexact HS

/-- One device's seven invariants made from its counters at zero. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun j => iprop(∃ κ : ℕ, cellInv ER (rd m ρ) κ (kcell (c, j))))
          ∗ (bigSep Finset.univ fun j => iprop(atPos ER (kcell (c, j)) 0 ∅ 0 ∗ reached ER (kcell (c, j)) 0)) ∗ toks c) := by
  have ha : iprop((bigSep Finset.univ fun j : Option (Bool × Fin 3) => semVal (kcell (c, j)) 0)
        ∗ bigSep Finset.univ fun j : Option (Bool × Fin 3) => roundState ER (rd m ρ) (kcell (c, j)) 0)
      ⊢ (|={Set.univ}=> bigSep Finset.univ fun j => iprop(∃ κ : ℕ, cellInv ER (rd m ρ) κ (kcell (c, j))) : sProp 𝕄) := by
    rw [← bigSep_sep']
    exact (bigSep_mono fun j _ => (Rounds.body_intro ER (rd m ρ) (kcell (c, j))).trans inv_alloc).trans (bigSep_fupd _ _)
  unfold G
  iintro ⟨Hos, Hus, Hst, Hat, Htok⟩
  ihave Hv := (sems0 (F := F) c) $$ [Hos Hus]
  · isplitl [Hos] <;> iassumption
  imod ha $$ [Hv Hst] with Hinv
  · isplitl [Hv] <;> iassumption
  imodintro
  isplitl [Hinv]; · iexact Hinv
  isplitl [Hat] <;> iassumption

/-- The partner of a step, as a rearrangement of the devices. -/
def swap (k : Fin 3) : Dev nD ≃ Dev nD := ⟨peer k, peer k, peer_peer k, peer_peer k⟩

omit [FloatOps F] in
/-- The tokens go to the devices that pay with them: each barrier's and receive cell's to the partner of its step. -/
theorem toks_dealt : (bigSep Finset.univ fun c : Dev nD => (toks c : sProp 𝕄)) ⊢ bigSep Finset.univ fun c : Dev nD => payToks c := by
  unfold payToks
  simp only [toks_list]
  simp only [bigSep_sep']
  rw [bigSep_univ_equiv (swap 0) (fun c : Dev nD => (dutyTok ER (barCell c) 0 0 : sProp 𝕄)),
    bigSep_univ_equiv (swap 1) (fun c : Dev nD => (dutyTok ER (barCell c) 0 1 : sProp 𝕄)),
    bigSep_univ_equiv (swap 2) (fun c : Dev nD => (dutyTok ER (barCell c) 0 2 : sProp 𝕄)),
    bigSep_univ_equiv (swap 0) (fun c : Dev nD => (dutyTok ER (recvCell 0 c) 0 0 : sProp 𝕄)),
    bigSep_univ_equiv (swap 1) (fun c : Dev nD => (dutyTok ER (recvCell 1 c) 0 0 : sProp 𝕄)),
    bigSep_univ_equiv (swap 2) (fun c : Dev nD => (dutyTok ER (recvCell 2 c) 0 0 : sProp 𝕄))]
  iintro ⟨H1, H2, H3, H4, H5, H6, H7⟩
  isplitl [H1 H2 H3]
  · isplitl [H1]; · iexact H1
    isplitl [H2]; · iexact H2
    iexact H3
  isplitl [H4 H5 H6]
  · isplitl [H4]; · iexact H4
    isplitl [H5]; · iexact H5
    iexact H6
  iexact H7

omit [FloatOps F] in
theorem positions_of (c : Dev nD) : (bigSep Finset.univ fun j : Option (Bool × Fin 3) => (atPos ER (kcell (c, j)) 0 ∅ 0 : sProp 𝕄)) ⊢ positions c := by
  rw [bigSep_cells]
  unfold positions
  iintro ⟨H0, H1, H2, H3, H4⟩
  isplitl [H0]; · iexact H0
  isplitl [H1 H2 H3]
  · isplitl [H1]; · iexact H1
    isplitl [H2]; · iexact H2
    iexact H3
  iexact H4

omit [FloatOps F] in
/-- A persistent fact is handed to every member of a family. -/
theorem share_out {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun j => iprop(∃ κ : ℕ, cellInv ER (rd m ρ) κ (kcell (c, j))))
          ∗ (bigSep Finset.univ fun j => iprop(atPos ER (kcell (c, j)) 0 ∅ 0 ∗ reached ER (kcell (c, j)) 0)) ∗ toks c) : sProp 𝕄)
      ⊢ bigSep Finset.univ (G' m ρ) := by
  have hg (K : Dev nD × Option (Bool × Fin 3) → ℕ) (c : Dev nD) :
      iprop(recs m ρ K ∗ (bigSep Finset.univ fun j : Option (Bool × Fin 3) => (atPos ER (kcell (c, j)) 0 ∅ 0 : sProp 𝕄)) ∗ payToks c) ⊢ G' m ρ c := by
    unfold G' ghost
    iintro ⟨HR, Hat, Ht⟩
    iexists K
    isplitl [HR]; · iexact HR
    isplitl [Hat]; · iapply (positions_of (F := F) c); iexact Hat
    iexact Ht
  rw [bigSep_sep', bigSep_sep', ← bigSep_univ_prod (fun ck : Dev nD × Option (Bool × Fin 3) => iprop(∃ κ : ℕ, cellInv ER (rd m ρ) κ (kcell ck))),
    bigSep_congr (s := Finset.univ) (fun (c : Dev nD) _ => bigSep_sep' Finset.univ (fun j : Option (Bool × Fin 3) => (atPos ER (kcell (c, j)) 0 ∅ 0 : sProp 𝕄)) (fun j => reached ER (kcell (c, j)) 0)),
    bigSep_sep', ← bigSep_univ_prod (fun ck : Dev nD × Option (Bool × Fin 3) => (reached ER (kcell ck) 0 : sProp 𝕄))]
  iintro ⟨HI, ⟨Hat, HR⟩, Htok⟩
  ihave HK := (BI.bigSep_exists_pi Finset.univ (fun (ck : Dev nD × Option (Bool × Fin 3)) (κ : ℕ) => (cellInv ER (rd m ρ) κ (kcell ck) : sProp 𝕄))) $$ HI
  icases HK with ⟨%K, HI⟩
  ihave Htk := (toks_dealt (F := F)) $$ Htok
  iapply (share_out (R := recs m ρ K) fun c _ => hg K c)
  isplitl [HI HR]
  · unfold recs; isplitl [HI] <;> iassumption
  rw [bigSep_sep']
  isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credit -/

omit [FloatOps F] in
theorem cred_dueR (k : Fin 3) (c : Dev nD) : (Pipeline.launchCred (dueR k) c : sProp 𝕄) ⊢ cred (tallyAt (recvCell k c) () N) :=
  Pipeline.launchCred_tallyAt (.dma (recvS k)) (peer k) (peer k) (peer_peer k) (peer_peer k) () N c
omit [FloatOps F] in
theorem cred_dueB (k : Fin 3) (c : Dev nD) : (Pipeline.launchCred (dueB k) c : sProp 𝕄) ⊢ cred (tallyAt (barCell c) () 1) :=
  Pipeline.launchCred_tallyAt (.reg barS) (peer k) (peer k) (peer_peer k) (peer_peer k) () 1 c

omit [FloatOps F] in
/-- What the partners owe a device is the credit it starts with. -/
theorem creds (c : Dev nD) : (Pipeline.launchCred O₀ c : sProp 𝕄) ⊢ credits c := by
  have h3 : (tallyAt (barCell c) () 3 : CellTallies nD τ sig Unit) = tallyAt (barCell c) () 1 + tallyAt (barCell c) () 1 + tallyAt (barCell c) () 1 := by
    show tallyAt (barCell c) () (1 + 1 + 1) = _
    rw [tallyAt_add, tallyAt_add]
  have hO : (O₀ : Dev nD → CellTallies nD τ sig Unit) = fun d => (((((dueR 2 d + dueR 1 d) + dueR 0 d) + dueB 2 d) + dueB 1 d) + dueB 0 d) := rfl
  rw [hO, Pipeline.launchCred_add, Pipeline.launchCred_add, Pipeline.launchCred_add, Pipeline.launchCred_add, Pipeline.launchCred_add]
  unfold credits
  iintro ⟨⟨⟨⟨⟨HR2, HR1⟩, HR0⟩, HB2⟩, HB1⟩, HB0⟩
  isplitl [HB0 HB1 HB2]
  · rw [h3]
    iapply (cred_add _ _).2
    isplitl [HB0 HB1]
    · iapply (cred_add _ _).2
      isplitl [HB0]
      · iapply (cred_dueB (F := F) 0 c); iexact HB0
      · iapply (cred_dueB (F := F) 1 c); iexact HB1
    · iapply (cred_dueB (F := F) 2 c); iexact HB2
  isplitl [HR0]; · iapply (cred_dueR (F := F) 0 c); iexact HR0
  isplitl [HR1]; · iapply (cred_dueR (F := F) 1 c); iexact HR1
  iapply (cred_dueR (F := F) 2 c); iexact HR2

/-! ### The run -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc] <;> iassumption
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_list, unscopedSems0_list]
  unfold Φ₁ scratch
  iintro ⟨Hr, HzB, ⟨H1, H2, H3⟩, H4⟩
  isplitl [HzB]; · iexact HzB
  isplitr [Hr]
  · isplitl [H1]; · iexact H1
    isplitl [H2]; · iexact H2
    isplitl [H3] <;> iassumption
  iexact Hr

omit [FloatOps F] in
/-- A semaphore that is none of the protocol's lies at the bottom level. -/
theorem stage_level {c : Dev nD} (sm : SemLoc sig) (h : kind sm = none) : lv ((c : Thread nD τ), sm) () = 0 := by
  show levOf (kind sm) = 0
  rw [h]; rfl

theorem waits (c : Dev nD) : (levAts L lv : sProp 𝕄) ⊢ Pipeline.cellsWaits cfgs (dats m ρ) () 0 c :=
  Pipeline.cellsWaits_intro cfgs (dats m ρ) () 0 c fun w s t =>
    mayWait (F := F) c _ 0 (by fin_cases w <;> fin_cases s <;> exact Nat.le_of_eq (stage_level _ (by decide))) (by
      rcases t with ⟨_ | _, ht⟩
      · exact above_O₀ c
      · exact above_zero)

/-- What device `c`'s array of window `w` holds after the run. -/
def finalA (c : Dev nD) (w : Fin cfg0.W) : Buf (Elt F) ((cfg0.win w).arr.view.loc (c : Thread nD τ)) := (dats m ρ 0 c).arrAt w cfg0.N

set_option maxRecDepth 8000 in
/-- On the eight devices, for any float values and any memory with counters at zero: every fair execution of the
    program ends, with every window's array at `finalA` and every counter at zero. -/
theorem run_main : θ_run defs (onTc (τ := τ) (main (F := F))) (s₀ m ρ)
    (fun r => (∀ c : Dev nD, ∀ w : Fin cfg0.W, r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (body_obligation m ρ c).loose) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The input array after the run holds what it held; -/
theorem finalA_x (c : Dev nD) : finalA m ρ c (0 : Fin 2) = m ((c : Thread nD τ).loc main_arg0) :=
  (dats (F := F) m ρ 0 c).arrAt_in (0 : Fin 2) rfl _

end Cert.ScanProof

end
-- ==== Proof.Result.lean ====
/-
What the run leaves in the result array, as a value of the input array.
-/
module

public import proofs.«01_k».proof.Proof.Launch

@[expose] public section

noncomputable section

namespace Cert.ScanProof

open Cert.KernelIdeal Cert.KernelIdeal.Gen
open Idealize.ShloMosaic
open Idealize.ShloMosaic.TcCoe
open Idealize.SL.Sem
open Idealize.ShloMosaic.Pipeline (Dat)

variable {F : FTy → Type} [FloatOps F]

variable (m : (ℓ : Loc nD τ sig) → Buf (Elt F) ℓ) (ρ : Dev nD → PrngReg)

/-- The one block of the input is the whole of the device's input array. -/
theorem xstg_eq (c : Dev nD) : xstg m ρ c = m ((c : Thread nD τ).loc main_arg0) :=
  Memref.read_access_unit_zero (Elt F) main_arg0 (by decide) (by decide) _

/-- The one block of the result is the whole of the device's result array, so what is written back is what the array
    holds at the end. -/
theorem finalA_out (c : Dev nD) : finalA m ρ c (1 : Fin 2) = outAt m ρ c := by
  have hw : ((cfg0.win 1).blk t0_0).view.read (Elt F) (finalA m ρ c (1 : Fin 2)) = outAt m ρ c := by
    unfold finalA
    rw [show cfg0.N = t0_0.val + 1 from rfl, (dats m ρ 0 c).arrAt_succ (1 : Fin 2) t0_0, flush0_1, if_pos rfl]
    exact View.read_write_univ _ _
  exact (Memref.read_access_unit_zero (Elt F) main_v1 (by decide) (by decide) _).symm.trans hw

/-- Every fair execution ends with each device's result array at `outAt`, its input array as it was, and every
    counter at zero. -/
theorem run_out : θ_run defs (onTc (τ := τ) (main (F := F))) (s₀ m ρ)
    (fun r => (∀ c : Dev nD, r.2.mem ((c : Thread nD τ).loc main_v1) = outAt m ρ c
        ∧ r.2.mem ((c : Thread nD τ).loc main_arg0) = m ((c : Thread nD τ).loc main_arg0)) ∧ r.2.sem = fun _ => 0) :=
  (θ_run defs _ _).mono (fun _ h => ⟨fun c => ⟨(h.1 c 1).trans (finalA_out m ρ c), (h.1 c 0).trans (finalA_x m ρ c)⟩, h.2⟩)
    (run_main m ρ)

end Cert.ScanProof

end
-- ==== Proof.Ref.lean ====
/-
What the reference computes, over the extended reals: row `r` of its result is the product of rows `0` to `r` of its
argument.
-/
module

public import proofs.«01_k».proof.Proof.Column
public import proofs.«01_k».proof.Proof.Gen.ReferenceIdeal.Run
public import Idealize.ShloMosaic.Lib.ValueLayout
public import Idealize.ShloMosaic.Lib.Pointwise.ShapeOpsCore
public import Idealize.ShloMosaic.Lib.Quiescent
public import Idealize.ShloMosaic.Lib.WordCmp

@[expose] public section

noncomputable section

namespace Cert.ScanProof.Ref

open Cert.ReferenceIdeal Cert.ReferenceIdeal.Gen Cert.ReferenceIdeal.Value
open Idealize.ShloMosaic hiding ix1 ix2 eq_ix2
open Idealize.ShloMosaic.TcCoe Idealize.ShloMosaic.StableHlo Idealize.ShloMosaic.Tactic
open Idealize.ShloMosaic.ValueIdx (ix1 ix2 eq_ix2 mulf_apply extf_apply shapeCast_1a_a_apply)
open Idealize.SL.Sem
open scoped BigOperators
open Finset

/-- The result for the argument `x`: at row `r`, the product of rows `0` to `r`. -/
def prefixProd (x : S4096x512.Idx → EReal) : S4096x512.Idx → EReal := fun i => ∏ j ∈ range ((i 0).val + 1), column x (i 1) j

/-! ### One trip's reads and writes -/

variable {k : ℕ}

/-- The row a counter names, as the start of a slice. -/
abbrev startAt (w : IVec S_ 32) : Fin 2 → Int :=
  fun a => ((![w, constantI S_ 32 0#32] : Fin 2 → IVec S_ 32) a (Shape.Idx.first h_S_)).toInt

/-- Counter `k`, which is below 4096, reads as `k`. -/
theorem startAt_row (hk : k < 4096) : startAt (constantI S_ 32 (BitVec.ofNat 32 k)) 0 = k := by
  show (BitVec.ofNat 32 k).toInt = k
  exact WordCmp.toInt_ofNat_of_lt (by omega)

/-- A row of the array starting at counter `k` starts, inside the array, at row `k` … -/
theorem clamped_row (hk : k < 4096) (h : S1x512.rank = S4096x512.rank) :
    Host.clampedStart S4096x512 S1x512 h (startAt (constantI S_ 32 (BitVec.ofNat 32 k))) 0 = k :=
  Host.clampedStart_of_le h _ 0 k (startAt_row hk) (by show k + 1 ≤ 4096; omega)

/-- … and at the first column. -/
theorem clamped_column (h : S1x512.rank = S4096x512.rank) :
    Host.clampedStart S4096x512 S1x512 h (startAt (constantI S_ 32 (BitVec.ofNat 32 k))) 1 = 0 :=
  Host.clampedStart_of_le h _ 1 0 rfl (by show 0 + 512 ≤ 512; omega)

/-- The row sliced out at counter `k` is row `k`. -/
theorem slice_apply (x : S4096x512.Idx → EReal) (hk : k < 4096) (l : Fin 512) :
    Host.dynamicSlice S1x512 x (startAt (constantI S_ 32 (BitVec.ofNat 32 k))) sliceFits_S4096x512_S1x512 (ix2 (0 : Fin 1) l)
      = column x l k := by
  rw [column_of_lt x l hk, Host.dynamicSlice_apply]
  refine congrArg x (funext fun a => match a with
    | ⟨0, _⟩ => Fin.ext ?_
    | ⟨1, _⟩ => Fin.ext ?_)
  · exact (congrArg (· + 0) (clamped_row hk _))
  · exact (congrArg (· + l.val) (clamped_column _)).trans (Nat.zero_add _)

/-- Writing a row at counter `k` changes row `k` alone. -/
theorem update_apply (y : S4096x512.Idx → EReal) (v : S1x512.Idx → EReal) (hk : k < 4096) (r : Fin 4096) (l : Fin 512) :
    Host.dynamicUpdateSlice y v (startAt (constantI S_ 32 (BitVec.ofNat 32 k))) updateFits_S4096x512_S1x512 (ix2 r l)
      = if r.val = k then v (ix2 (0 : Fin 1) l) else y (ix2 r l) := by
  have h0 := clamped_row hk updateFits_S4096x512_S1x512.1
  have h1 := clamped_column (k := k) updateFits_S4096x512_S1x512.1
  rw [Host.dynamicUpdateSlice_apply]
  by_cases hr : r.val = k
  · rw [if_pos hr, dif_pos (fun a => match a with
      | ⟨0, _⟩ => ⟨h0.le.trans hr.ge, by rw [show (⟨0, _⟩ : Fin 2) = 0 from rfl, h0]; show r.val < k + 1; omega⟩
      | ⟨1, _⟩ => ⟨h1.le.trans (Nat.zero_le _), by rw [show (⟨1, _⟩ : Fin 2) = 1 from rfl, h1]; show l.val < 0 + 512; omega⟩)]
    refine congrArg v (funext fun a => match a with
      | ⟨0, _⟩ => Fin.ext (Nat.lt_one_iff.1 (Fin.isLt _))
      | ⟨1, _⟩ => Fin.ext ((congrArg (l.val - ·) h1).trans (Nat.sub_zero _)))
  · rw [if_neg hr, dif_neg]
    intro h
    have := h 0
    rw [h0] at this
    exact hr (Nat.le_antisymm (Nat.lt_succ_iff.1 this.2) this.1)

/-! ### The loop -/

/-- What the loop's variables hold before trip `k`: the argument, the counter, the product of the first `k` rows, and the
    first `k` rows of the result. -/
structure Before (x : S4096x512.Idx → EReal) (k : ℕ) (V : Valuation τ sig (Elt Ideal)) : Prop where
  arg : V (Proc.devRef .tc main_v2_0) = x
  counter : V (Proc.devRef .tc main_v2_1) = constantI S_ 32 (BitVec.ofNat 32 k)
  prod : ∀ l : Fin 512, (V (Proc.devRef .tc main_v2_2) : S512.Idx → EReal) (ix1 l) = ∏ j ∈ range k, column x l j
  rows : ∀ (r : Fin 4096) (l : Fin 512), r.val < k →
    (V (Proc.devRef .tc main_v2_3) : S4096x512.Idx → EReal) (ix2 r l) = ∏ j ∈ range (r.val + 1), column x l j

/-- The product a trip forms. -/
theorem Before.next_prod {x : S4096x512.Idx → EReal} {V : Valuation τ sig (Elt Ideal)} (h : Before x k V) (hk : k < 4096) (l : Fin 512) :
    (res_main_while0b_v5 V : S512.Idx → EReal) (ix1 l) = ∏ j ∈ range (k + 1), column x l j := by
  unfold res_main_while0b_v5
  rw [mulf_apply, h.prod l, prod_range_succ, extf_apply, h.arg, h.counter]
  refine congrArg _ ?_
  exact (shapeCast_1a_a_apply _ shapeCasts_S1x512_S512 l).trans (slice_apply x hk l)

/-- One trip. -/
theorem Before.step {x : S4096x512.Idx → EReal} {V : Valuation τ sig (Elt Ideal)} (h : Before x k V) (hk : k < 4096) :
    Before x (k + 1) (STEP V) where
  arg := (STEP_main_v2_0 V).trans h.arg
  counter := by
    rw [STEP_main_v2_1]
    show addi (V (Proc.devRef .tc main_v2_1)) (constantI S_ 32 1#32) = _
    rw [h.counter]
    funext i
    show BitVec.ofNat 32 k + 1#32 = BitVec.ofNat 32 (k + 1)
    rw [BitVec.ofNat_add]
  prod l := (congrFun (STEP_main_v2_2 V) (ix1 l)).trans (h.next_prod hk l)
  rows r l hr := by
    refine (congrFun (STEP_main_v2_3 V) (ix2 r l)).trans ?_
    show Host.dynamicUpdateSlice (V (Proc.devRef .tc main_v2_3) : S4096x512.Idx → EReal) _ (startAt (V (Proc.devRef .tc main_v2_1)))
      updateFits_S4096x512_S1x512 (ix2 r l) = _
    rw [h.counter, update_apply _ _ hk]
    split
    · rename_i he
      rw [he, ← h.next_prod hk l]
      exact congrArg (res_main_while0b_v5 V : S512.Idx → EReal) (funext fun a => match a with | ⟨0, _⟩ => rfl)
    · exact h.rows r l (by omega)

variable (m : (ℓ : Loc nD τ sig) → Buf (Elt Ideal) ℓ) (ρ : Dev nD → PrngReg)

/-- Before the first trip the product is one and no row is written. -/
theorem before_zero (c : Dev nD) : Before (m ((c : Thread nD τ).loc main_arg0)) 0 (entryContents preI m c) where
  arg := by
    simp only [entryContents, afterL_cons, afterL_nil]
    after_reads_simp
    rfl
  counter := by
    simp only [entryContents, afterL_cons, afterL_nil]
    after_reads_simp
    rfl
  prod l := by
    rw [range_zero, prod_empty]
    refine (?_ : _ = (Scalar.ofBits .f32 0x3F800000#32 : Ideal .f32)).trans one_f32
    simp only [entryContents, afterL_cons, afterL_nil]
    after_reads_simp
    rfl
  rows r l hr := absurd hr (Nat.not_lt_zero _)

/-- Before trip `k`, for every `k` up to the last. -/
theorem before (c : Dev nD) : ∀ k, k ≤ 4096 → Before (m ((c : Thread nD τ).loc main_arg0)) k (STEP^[k] (entryContents preI m c))
  | 0, _ => before_zero m c
  | k + 1, hk => by
    rw [Function.iterate_succ_apply']
    exact (before c k (by omega)).step (by omega)

/-- Every fair execution of the reference ends with its result at the running products of its argument's rows, and its
    argument as it was. -/
theorem run_out : θ_run (defs (F := Ideal)) (onTc (τ := τ) (main (F := Ideal))) ⟨m, fun _ => 0, ρ⟩ fun r => ∀ c : Dev nD,
    r.2.mem ((c : Thread nD τ).loc main_v2_3) = prefixProd (m ((c : Thread nD τ).loc main_arg0))
      ∧ r.2.mem ((c : Thread nD τ).loc main_arg0) = m ((c : Thread nD τ).loc main_arg0) :=
  (θ_run defs _ _).mono (fun _ h c => ⟨(h c).1.trans (funext fun i => by
      refine (congrArg _ (eq_ix2 i)).trans ?_
      exact (before m c 4096 le_rfl).rows (i 0) (i 1) (i 0).isLt), (h c).2⟩) (Value.run m ρ)

/-- And every counter at zero: the reference has none. -/
theorem frame : θ_run (defs (F := Ideal)) (onTc (τ := τ) (main (F := Ideal))) ⟨m, fun _ => 0, ρ⟩ fun r =>
    (∀ c : Dev nD, r.2.mem ((c : Thread nD τ).loc main_arg0) = m ((c : Thread nD τ).loc main_arg0)) ∧ r.2.sem = fun _ => 0 :=
  (θ_run defs _ _).mono (fun r h => ⟨fun c => (h c).2, sem_eq_zero_of_no_sems (by decide) r.2⟩) (Value.run m ρ)

end Cert.ScanProof.Ref

end
-- ==== Proof.Equation.lean ====
/-
The equation: where each device's input is its block of the whole array, what each device stores is its block of the
running product of the whole array.
-/
module

public import proofs.«01_k».proof.Proof.Butterfly
public import proofs.«01_k».proof.Proof.Result
public import proofs.«01_k».proof.Proof.Ref
public import Idealize.ShloMosaic.Lib.Layout

@[expose] public section

noncomputable section

namespace Cert.ScanProof

open Cert.KernelIdeal Cert.KernelIdeal.Gen
open Idealize.ShloMosaic hiding ix1 ix2 eq_ix2
open Idealize.ShloMosaic.TcCoe
open Idealize.ShloMosaic.ValueIdx (ix1 ix2 eq_ix2)
open scoped BigOperators
open Finset

/-- Device `c`'s block of a whole array: its 512 rows from row `512 c` on. -/
abbrev blockOf (c : Dev nD) (X : (⟨2, ![4096, 512]⟩ : Shape).Idx → EReal) : (⟨2, ![512, 512]⟩ : Shape).Idx → EReal :=
  Layout.block ⟨2, ![512, 512]⟩ ⟨2, ![4096, 512]⟩ 0 8 c X

/-- Row `r` of device `c`'s block is row `512 c + r` of the whole. -/
theorem blockOf_apply (c : Dev nD) (X : (⟨2, ![4096, 512]⟩ : Shape).Idx → EReal) (r l : Fin 512) (h : 512 * c.val + r.val < 4096) :
    blockOf c X (ix2 r l) = X (ix2 ⟨512 * c.val + r.val, h⟩ l) :=
  congrArg X (funext fun a => match a with
    | ⟨0, _⟩ => Fin.ext (congrArg (· + r.val) (Nat.mul_comm c.val 512))
    | ⟨1, _⟩ => rfl)

/-- A block's column is a stretch of the whole array's column. -/
theorem column_block (c : Dev nD) (X : (⟨2, ![4096, 512]⟩ : Shape).Idx → EReal) (l : Fin 512) {i : ℕ} (hi : i < 512) :
    column (blockOf c X) l i = column X l (512 * c.val + i) := by
  have hc : c.val < 8 := c.isLt
  have h : 512 * c.val + i < 4096 := by omega
  rw [column_of_lt _ _ hi, column_of_lt _ _ h]
  exact blockOf_apply c X ⟨i, hi⟩ l h

variable (m : (ℓ : Loc nD τ sig) → Buf (Elt Ideal) ℓ) (ρ : Dev nD → PrngReg)

/-- Where every device's input is its block of `X`, every device's result is its block of the running product of `X`. -/
theorem outAt_block (X : (⟨2, ![4096, 512]⟩ : Shape).Idx → EReal)
    (hX : ∀ c : Dev nD, m ((c : Thread nD τ).loc main_arg0) = blockOf c X) (c : Dev nD) :
    outAt m ρ c = blockOf c (Ref.prefixProd X) := by
  have hx (d : Dev nD) : xstg m ρ d = blockOf d X := (xstg_eq m ρ d).trans (hX d)
  funext i
  have hc : c.val < 8 := c.isLt
  obtain ⟨r, l, rfl⟩ : ∃ (r l : Fin 512), i = ix2 r l := ⟨i 0, i 1, eq_ix2 i⟩
  have h : 512 * c.val + r.val < 4096 := by omega
  rw [blockOf_apply c _ r l h, outAt_apply m ρ c r l (fun d => ∏ i ∈ range 512, column X l (512 * d + i)) fun d => by
    unfold rowsProd
    rw [hx d]
    exact prod_congr rfl fun i hi => column_block d X l (mem_range.1 hi)]
  show _ = ∏ j ∈ range (512 * c.val + r.val + 1), column X l j
  rw [prod_up_to, hx c]
  exact congrArg _ (prod_congr rfl fun i hi => column_block c X l (by have := mem_range.1 hi; omega))

end Cert.ScanProof

end
-- ==== Proof.lean ====
/-
The proof of `Cert.Claim`: the frames of the kernel, of its ideal reading and of the reference, and that the kernel and
the reference compute the same running product over the extended reals.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Equation
public import Idealize.ShloMosaic.Adequacy
public import Idealize.ShloMosaic.Init

@[expose] public section

noncomputable section

namespace Cert.Proof

open Idealize.ShloMosaic Idealize.SL.Sem Cert.ScanProof

/-- For any float values, the program runs without fault, leaves its argument as it was and every counter at zero. -/
theorem frame {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ fun r =>
      (∀ c : Dev Cert.KernelIdeal.nD, r.2.mem ((c.tc : Thread Cert.KernelIdeal.nD Cert.KernelIdeal.τ).loc Cert.KernelIdeal.main_arg0)
        = m ((c.tc : Thread Cert.KernelIdeal.nD Cert.KernelIdeal.τ).loc Cert.KernelIdeal.main_arg0)) ∧ r.2.sem = fun _ => 0 :=
  (θ_run Cert.KernelIdeal.defs _ _).mono (fun _ h => ⟨fun c => (h.1 c).2, h.2⟩) (run_out m ρ)

/-- The two printed programs have the same bodies … -/
theorem bodies_eq {F : FTy → Type} [FloatOps F] : Cert.Kernel.defs₀ (F := F) = Cert.KernelIdeal.defs₀ (F := F) := by
  unfold Cert.Kernel.defs₀ Cert.KernelIdeal.defs₀
  refine congrArg Defs.onTc (funext fun l => ?_)
  match l with
  | 0 => rfl

/-- … and so the same pipelines around them. -/
theorem defs_eq {F : FTy → Type} [FloatOps F] : Cert.Kernel.defs (F := F) = Cert.KernelIdeal.defs (F := F) :=
  congrArg (Pipeline.defs Cert.Kernel.pcfgs) bodies_eq

/-- The kernel itself is that program, read at the machine's words. -/
theorem frame_kernel : Cert.quiescent_Kernel := fun m ρ _ => by
  rw [defs_eq]
  exact frame (F := Bits) m ρ

/-- Its ideal reading is that program over the extended reals. -/
theorem frame_ideal : Cert.quiescent_KernelIdeal := fun m ρ _ => frame (F := Ideal) m ρ

/-- The reference runs without fault, too, leaves its argument as it was and every counter at zero. -/
theorem frame_reference : Cert.quiescent_ReferenceIdeal := fun m ρ _ => Ref.frame m ρ

/-- Over the extended reals, from inputs that are the blocks of the reference's argument, each device's result is its
    block of the reference's result. -/
theorem value : Cert.algebraic_KernelIdeal_ReferenceIdeal := fun m ρ m' ρ' _ hx =>
  ⟨Ref.prefixProd (m' (((0 : Dev Cert.ReferenceIdeal.nD).tc : Thread Cert.ReferenceIdeal.nD Cert.ReferenceIdeal.τ).loc Cert.ReferenceIdeal.main_arg0)),
    (θ_run Cert.KernelIdeal.defs _ _).mono
      (fun _ h c => ⟨(h.1 c).1.trans (outAt_block m ρ _ hx c), (h.1 c).2⟩) (run_out (F := Ideal) m ρ),
    (θ_run Cert.ReferenceIdeal.defs _ _).mono (fun _ h => h 0) (Ref.run_out m' ρ')⟩

/-- All five claims. -/
theorem claim : Cert.Claim := ⟨Cert.Kernel.Gen.facts, Cert.KernelIdeal.Gen.facts, Cert.ReferenceIdeal.Gen.facts,
  frame_kernel, frame_ideal, frame_reference, trivial, value⟩

end Cert.Proof

end
